-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptReferenceIdeal (m : (ℓ : Loc Cert.PromptReferenceIdeal.nD Cert.PromptReferenceIdeal.τ Cert.PromptReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2))
      ∧ r.2.sem = fun _ => 0)

def quiescent_PromptReferenceIdeal [hPromptReferenceIdeal : Cert.PromptReferenceIdeal.Facts] : Prop :=
  ∀ (m : (ℓ : Loc Cert.PromptReferenceIdeal.nD Cert.PromptReferenceIdeal.τ Cert.PromptReferenceIdeal.sig) → Buf (Elt Ideal) ℓ) (g : Dev Cert.PromptReferenceIdeal.nD → PrngReg), Pre_PromptReferenceIdeal m →
    θ_run (Cert.PromptReferenceIdeal.defs (F := Ideal)) (onTc (τ := Cert.PromptReferenceIdeal.τ) (Cert.PromptReferenceIdeal.main (F := Ideal))) ⟨m, fun _ => 0, g⟩ (fun r => (∀ c : Dev Cert.PromptReferenceIdeal.nD,
      r.2.mem ((c.tc : Thread Cert.PromptReferenceIdeal.nD Cert.PromptReferenceIdeal.τ).loc Cert.PromptReferenceIdeal.main_arg0) = m ((c.tc : Thread Cert.PromptReferenceIdeal.nD Cert.PromptReferenceIdeal.τ).loc Cert.PromptReferenceIdeal.main_arg0)
      ∧ r.2.mem ((c.tc : Thread Cert.PromptReferenceIdeal.nD Cert.PromptReferenceIdeal.τ).loc Cert.PromptReferenceIdeal.main_arg1) = m ((c.tc : Thread Cert.PromptReferenceIdeal.nD Cert.PromptReferenceIdeal.τ).loc Cert.PromptReferenceIdeal.main_arg1)
      ∧ r.2.mem ((c.tc : Thread Cert.PromptReferenceIdeal.nD Cert.PromptReferenceIdeal.τ).loc Cert.PromptReferenceIdeal.main_arg2) = m ((c.tc : Thread Cert.PromptReferenceIdeal.nD Cert.PromptReferenceIdeal.τ).loc Cert.PromptReferenceIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Prompt_PromptIdeal : Prop :=
  True

def algebraic_PromptIdeal_PromptReferenceIdeal [hPromptIdeal : Cert.PromptIdeal.Facts] [hPromptReferenceIdeal : Cert.PromptReferenceIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptReferenceIdeal.nD Cert.PromptReferenceIdeal.τ Cert.PromptReferenceIdeal.sig) → Buf (Elt Ideal) ℓ) (g' : Dev Cert.PromptReferenceIdeal.nD → PrngReg), Pre_PromptIdeal m →
    (∀ c : Dev Cert.PromptIdeal.nD,
      m' ((c.tc : Thread Cert.PromptReferenceIdeal.nD Cert.PromptReferenceIdeal.τ).loc Cert.PromptReferenceIdeal.main_arg0) = m ((c.tc : Thread Cert.PromptIdeal.nD Cert.PromptIdeal.τ).loc Cert.PromptIdeal.main_arg0)
      ∧ m' ((c.tc : Thread Cert.PromptReferenceIdeal.nD Cert.PromptReferenceIdeal.τ).loc Cert.PromptReferenceIdeal.main_arg1) = m ((c.tc : Thread Cert.PromptIdeal.nD Cert.PromptIdeal.τ).loc Cert.PromptIdeal.main_arg1)
      ∧ m' ((c.tc : Thread Cert.PromptReferenceIdeal.nD Cert.PromptReferenceIdeal.τ).loc Cert.PromptReferenceIdeal.main_arg2) = m ((c.tc : Thread Cert.PromptIdeal.nD Cert.PromptIdeal.τ).loc Cert.PromptIdeal.main_arg2)) →
    ∃ (v0 : (c : Dev Cert.PromptIdeal.nD) → Buf (Elt Ideal) ((c.tc : Thread Cert.PromptIdeal.nD Cert.PromptIdeal.τ).loc Cert.PromptIdeal.main_v17_0)) (v1 : (c : Dev Cert.PromptIdeal.nD) → Buf (Elt Ideal) ((c.tc : Thread Cert.PromptIdeal.nD Cert.PromptIdeal.τ).loc Cert.PromptIdeal.main_v17_1)) (v2 : (c : Dev Cert.PromptIdeal.nD) → Buf (Elt Ideal) ((c.tc : Thread Cert.PromptIdeal.nD Cert.PromptIdeal.τ).loc Cert.PromptIdeal.main_v17_2)) (v3 : (c : Dev Cert.PromptIdeal.nD) → Buf (Elt Ideal) ((c.tc : Thread Cert.PromptIdeal.nD Cert.PromptIdeal.τ).loc Cert.PromptIdeal.main_v17_3)) (v4 : (c : Dev Cert.PromptIdeal.nD) → Buf (Elt Ideal) ((c.tc : Thread Cert.PromptIdeal.nD Cert.PromptIdeal.τ).loc Cert.PromptIdeal.main_v17_4)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v17_0) = v0 c
          ∧ r.2.mem ((c.tc : Thread Cert.PromptIdeal.nD Cert.PromptIdeal.τ).loc Cert.PromptIdeal.main_v17_1) = v1 c
          ∧ r.2.mem ((c.tc : Thread Cert.PromptIdeal.nD Cert.PromptIdeal.τ).loc Cert.PromptIdeal.main_v17_2) = v2 c
          ∧ r.2.mem ((c.tc : Thread Cert.PromptIdeal.nD Cert.PromptIdeal.τ).loc Cert.PromptIdeal.main_v17_3) = v3 c
          ∧ r.2.mem ((c.tc : Thread Cert.PromptIdeal.nD Cert.PromptIdeal.τ).loc Cert.PromptIdeal.main_v17_4) = v4 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2))
      ∧ θ_run (Cert.PromptReferenceIdeal.defs (F := Ideal)) (onTc (τ := Cert.PromptReferenceIdeal.τ) (Cert.PromptReferenceIdeal.main (F := Ideal))) ⟨m', fun _ => 0, g'⟩ (fun r => ∀ c : Dev Cert.PromptReferenceIdeal.nD,
          r.2.mem ((c.tc : Thread Cert.PromptReferenceIdeal.nD Cert.PromptReferenceIdeal.τ).loc Cert.PromptReferenceIdeal.main_v28) = v0 c
          ∧ r.2.mem ((c.tc : Thread Cert.PromptReferenceIdeal.nD Cert.PromptReferenceIdeal.τ).loc Cert.PromptReferenceIdeal.main_v29) = v1 c
          ∧ r.2.mem ((c.tc : Thread Cert.PromptReferenceIdeal.nD Cert.PromptReferenceIdeal.τ).loc Cert.PromptReferenceIdeal.main_v31) = v2 c
          ∧ r.2.mem ((c.tc : Thread Cert.PromptReferenceIdeal.nD Cert.PromptReferenceIdeal.τ).loc Cert.PromptReferenceIdeal.main_v33) = v3 c
          ∧ r.2.mem ((c.tc : Thread Cert.PromptReferenceIdeal.nD Cert.PromptReferenceIdeal.τ).loc Cert.PromptReferenceIdeal.main_v37) = v4 c
          ∧ r.2.mem ((c.tc : Thread Cert.PromptReferenceIdeal.nD Cert.PromptReferenceIdeal.τ).loc Cert.PromptReferenceIdeal.main_arg0) = m' ((c.tc : Thread Cert.PromptReferenceIdeal.nD Cert.PromptReferenceIdeal.τ).loc Cert.PromptReferenceIdeal.main_arg0)
          ∧ r.2.mem ((c.tc : Thread Cert.PromptReferenceIdeal.nD Cert.PromptReferenceIdeal.τ).loc Cert.PromptReferenceIdeal.main_arg1) = m' ((c.tc : Thread Cert.PromptReferenceIdeal.nD Cert.PromptReferenceIdeal.τ).loc Cert.PromptReferenceIdeal.main_arg1)
          ∧ r.2.mem ((c.tc : Thread Cert.PromptReferenceIdeal.nD Cert.PromptReferenceIdeal.τ).loc Cert.PromptReferenceIdeal.main_arg2) = m' ((c.tc : Thread Cert.PromptReferenceIdeal.nD Cert.PromptReferenceIdeal.τ).loc Cert.PromptReferenceIdeal.main_arg2))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)) →
    ∃ (v0 : (c : Dev Cert.SampleIdeal.nD) → Buf (Elt Ideal) ((c.tc : Thread Cert.SampleIdeal.nD Cert.SampleIdeal.τ).loc Cert.SampleIdeal.main_v17_0)) (v1 : (c : Dev Cert.SampleIdeal.nD) → Buf (Elt Ideal) ((c.tc : Thread Cert.SampleIdeal.nD Cert.SampleIdeal.τ).loc Cert.SampleIdeal.main_v17_1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v17_0) = v0 c
          ∧ r.2.mem ((c.tc : Thread Cert.SampleIdeal.nD Cert.SampleIdeal.τ).loc Cert.SampleIdeal.main_v17_1) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v28) = v0 c
          ∧ r.2.mem ((c.tc : Thread Cert.SampleReferenceIdeal.nD Cert.SampleReferenceIdeal.τ).loc Cert.SampleReferenceIdeal.main_v29) = v1 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2))

def Claim : Prop :=
  ∃ (hKernel : Cert.Kernel.Facts) (hKernelIdeal : Cert.KernelIdeal.Facts) (hReferenceIdeal : Cert.ReferenceIdeal.Facts) (hPrompt : Cert.Prompt.Facts) (hPromptIdeal : Cert.PromptIdeal.Facts) (hPromptReferenceIdeal : Cert.PromptReferenceIdeal.Facts) (hSample : Cert.Sample.Facts) (hSampleIdeal : Cert.SampleIdeal.Facts) (hSampleReferenceIdeal : Cert.SampleReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Prompt (hPrompt := hPrompt)
    ∧ quiescent_PromptIdeal (hPromptIdeal := hPromptIdeal)
    ∧ quiescent_PromptReferenceIdeal (hPromptReferenceIdeal := hPromptReferenceIdeal)
    ∧ quiescent_Sample (hSample := hSample)
    ∧ quiescent_SampleIdeal (hSampleIdeal := hSampleIdeal)
    ∧ quiescent_SampleReferenceIdeal (hSampleReferenceIdeal := hSampleReferenceIdeal)
    ∧ preserves_Kernel_KernelIdeal
    ∧ algebraic_KernelIdeal_ReferenceIdeal (hKernelIdeal := hKernelIdeal) (hReferenceIdeal := hReferenceIdeal)
    ∧ preserves_Prompt_PromptIdeal
    ∧ algebraic_PromptIdeal_PromptReferenceIdeal (hPromptIdeal := hPromptIdeal) (hPromptReferenceIdeal := hPromptReferenceIdeal)
    ∧ preserves_Sample_SampleIdeal
    ∧ algebraic_SampleIdeal_SampleReferenceIdeal (hSampleIdeal := hSampleIdeal) (hSampleReferenceIdeal := hSampleReferenceIdeal)
-- ==== Kernel.lean ====
abbrev S16384x512 : Shape := ⟨2, ![16384, 512]⟩
abbrev S16384x3584 : Shape := ⟨2, ![16384, 3584]⟩
abbrev S16384x1024 : Shape := ⟨2, ![16384, 1024]⟩
abbrev S1x1024 : Shape := ⟨2, ![1, 1024]⟩
abbrev S1024 : Shape := ⟨1, ![1024]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 28
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x3584, .bf16⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S1024x2816, .f32⟩
  | .hbm, ⟨21, _⟩ => ⟨S1024x2816, .bf16⟩
  | .hbm, ⟨22, _⟩ => ⟨S1024x2816, .f32⟩
  | .hbm, ⟨23, _⟩ => ⟨S1024x2816, .bf16⟩
  | .hbm, ⟨24, _⟩ => ⟨S2816x1024, .f32⟩
  | .hbm, ⟨25, _⟩ => ⟨S2816x1024, .bf16⟩
  | .hbm, ⟨26, _⟩ => ⟨S1x1024, .f32⟩
  | .hbm, ⟨27, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S512x1024, .f32⟩
  | .local _ .vmem, ⟨19, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x512 : Shape := ⟨2, ![16384, 512]⟩
abbrev S16384x3584 : Shape := ⟨2, ![16384, 3584]⟩
abbrev S16384x1024 : Shape := ⟨2, ![16384, 1024]⟩
abbrev S1x1024 : Shape := ⟨2, ![1, 1024]⟩
abbrev S1024 : Shape := ⟨1, ![1024]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S_ : Shape := ⟨0, ![]⟩
abbrev S512x1024 : Shape := ⟨2, ![512, 1024]⟩
abbrev S1024x1024 : Shape := ⟨2, ![1024, 1024]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x3584, .bf16⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S16384x3584, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x512, .f32⟩
  | .hbm, ⟨24, _⟩ => ⟨S512x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x512, .f32⟩
  | .hbm, ⟨36, _⟩ => ⟨S512x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1024x1024, .f32⟩
  | .hbm, ⟨41, _⟩ => ⟨S16384x1024, .f32⟩
  | .hbm, ⟨42, _⟩ => ⟨S16384x1024, .f32⟩
  | .hbm, ⟨43, _⟩ => ⟨S1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S1024x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S_, .f32⟩
  | .hbm, ⟨65, _⟩ => ⟨S16384x2816, .f32⟩
  | .hbm, ⟨66, _⟩ => ⟨S16384x2816, .f32⟩
  | .hbm, ⟨67, _⟩ => ⟨S_, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S1024x2816, .f32⟩
  | .hbm, ⟨72, _⟩ => ⟨S16384x2816, .f32⟩
  | .hbm, ⟨73, _⟩ => ⟨S16384x2816, .f32⟩
  | .hbm, ⟨74, _⟩ => ⟨S2816x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1024, .f32⟩
  | .hbm, ⟨89, _⟩ => ⟨S16384x1024, .f32⟩
  | .hbm, ⟨90, _⟩ => ⟨S1x1024, .f32⟩
  | .hbm, ⟨91, _⟩ => ⟨S16384x1024, .f32⟩
  | .hbm, ⟨92, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]
-- ==== Prompt.lean ====
abbrev S8x2048x1024 : Shape := ⟨3, ![8, 2048, 1024]⟩
abbrev S1x1024 : Shape := ⟨2, ![1, 1024]⟩
abbrev S1x1024x5712 : Shape := ⟨3, ![1, 1024, 5712]⟩
abbrev S256x256 : Shape := ⟨2, ![256, 256]⟩
abbrev S1024x5712 : Shape := ⟨2, ![1024, 5712]⟩
abbrev S5712x1024 : Shape := ⟨2, ![5712, 1024]⟩
abbrev S_ : Shape := ⟨0, ![]⟩
abbrev S48x1024 : Shape := ⟨2, ![48, 1024]⟩
abbrev S1024x1024 : Shape := ⟨2, ![1024, 1024]⟩
abbrev S512x1024 : Shape := ⟨2, ![512, 1024]⟩
abbrev S1792x1024 : Shape := ⟨2, ![1792, 1024]⟩
abbrev S128x1024 : Shape := ⟨2, ![128, 1024]⟩
abbrev S64x1024 : Shape := ⟨2, ![64, 1024]⟩
abbrev S16x1024 : Shape := ⟨2, ![16, 1024]⟩
abbrev S5760x1024 : Shape := ⟨2, ![5760, 1024]⟩
abbrev S16384x1024 : Shape := ⟨2, ![16384, 1024]⟩
abbrev S1024 : Shape := ⟨1, ![1024]⟩
abbrev S16384x3584 : Shape := ⟨2, ![16384, 3584]⟩
abbrev S16384x2176 : Shape := ⟨2, ![16384, 2176]⟩
abbrev S8x128x2048 : Shape := ⟨3, ![8, 128, 2048]⟩
abbrev S8x1536x2048 : Shape := ⟨3, ![8, 1536, 2048]⟩
abbrev S512x3584 : Shape := ⟨2, ![512, 3584]⟩
abbrev S512x2176 : Shape := ⟨2, ![512, 2176]⟩
abbrev S1x128x512 : Shape := ⟨3, ![1, 128, 512]⟩
abbrev S1x1536x512 : Shape := ⟨3, ![1, 1536, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S128x512 : Shape := ⟨2, ![128, 512]⟩
abbrev S512x256 : Shape := ⟨2, ![512, 256]⟩
abbrev S256x512 : Shape := ⟨2, ![256, 512]⟩
abbrev S1x256x512 : Shape := ⟨3, ![1, 256, 512]⟩

abbrev nBuf : Space → Nat
  | .hbm => 27
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5712, .f32⟩
  | .hbm, ⟨3, _⟩ => ⟨S256x256, .bf16⟩
  | .hbm, ⟨4, _⟩ => ⟨S1024x5712, .f32⟩
  | .hbm, ⟨5, _⟩ => ⟨S5712x1024, .f32⟩
  | .hbm, ⟨6, _⟩ => ⟨S_, .f32⟩
  | .hbm, ⟨7, _⟩ => ⟨S48x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S512x1024, .f32⟩
  | .hbm, ⟨12, _⟩ => ⟨S1792x1024, .f32⟩
  | .hbm, ⟨13, _⟩ => ⟨S128x1024, .f32⟩
  | .hbm, ⟨14, _⟩ => ⟨S128x1024, .f32⟩
  | .hbm, ⟨15, _⟩ => ⟨S64x1024, .f32⟩
  | .hbm, ⟨16, _⟩ => ⟨S16x1024, .f32⟩
  | .hbm, ⟨17, _⟩ => ⟨S5760x1024, .f32⟩
  | .hbm, ⟨18, _⟩ => ⟨S5760x1024, .bf16⟩
  | .hbm, ⟨19, _⟩ => ⟨S16384x1024, .f32⟩
  | .hbm, ⟨20, _⟩ => ⟨S1024, .f32⟩
  | .hbm, ⟨21, _⟩ => ⟨S1x1024, .f32⟩
  | .hbm, ⟨22, _⟩ => ⟨S16384x3584, .bf16⟩
  | .hbm, ⟨23, _⟩ => ⟨S16384x2176, .f32⟩
  | .hbm, ⟨24, _⟩ => ⟨S8x128x2048, .f32⟩
  | .hbm, ⟨25, _⟩ => ⟨S8x128x2048, .f32⟩
  | .hbm, ⟨26, _⟩ => ⟨S8x1536x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5760x1024, .bf16⟩
  | .local _ .vmem, ⟨4, _⟩ => ⟨S256x256, .bf16⟩
  | .local _ .vmem, ⟨5, _⟩ => ⟨S512x3584, .bf16⟩
  | .local _ .vmem, ⟨6, _⟩ => ⟨S512x3584, .bf16⟩
  | .local _ .vmem, ⟨7, _⟩ => ⟨S512x2176, .f32⟩
  | .local _ .vmem, ⟨8, _⟩ => ⟨S512x2176, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x1536x512, .bf16⟩
  | .local _ .vmem, ⟨14, _⟩ => ⟨S1x1536x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev main_v17_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5760x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1536x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PromptReferenceIdeal.lean ====
abbrev S8x2048x1024 : Shape := ⟨3, ![8, 2048, 1024]⟩
abbrev S1x1024 : Shape := ⟨2, ![1, 1024]⟩
abbrev S1x1024x5712 : Shape := ⟨3, ![1, 1024, 5712]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5712 : Shape := ⟨2, ![1024, 5712]⟩
abbrev S16384x5712 : Shape := ⟨2, ![16384, 5712]⟩
abbrev S16384x512 : Shape := ⟨2, ![16384, 512]⟩
abbrev S16384x128 : Shape := ⟨2, ![16384, 128]⟩
abbrev S16384x64 : Shape := ⟨2, ![16384, 64]⟩
abbrev S16384x16 : Shape := ⟨2, ![16384, 16]⟩
abbrev S16384x1792 : Shape := ⟨2, ![16384, 1792]⟩
abbrev S16384x48 : Shape := ⟨2, ![16384, 48]⟩
abbrev S16384x3584 : Shape := ⟨2, ![16384, 3584]⟩
abbrev S16384x2176 : Shape := ⟨2, ![16384, 2176]⟩
abbrev S8x2048x128 : Shape := ⟨3, ![8, 2048, 128]⟩
abbrev S8x128x2048 : Shape := ⟨3, ![8, 128, 2048]⟩
abbrev S16384x1536 : Shape := ⟨2, ![16384, 1536]⟩
abbrev S8x2048x1536 : Shape := ⟨3, ![8, 2048, 1536]⟩
abbrev S8x1536x2048 : Shape := ⟨3, ![8, 1536, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5712, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x5712, .f32⟩
  | .hbm, ⟨22, _⟩ => ⟨S16384x5712, .f32⟩
  | .hbm, ⟨23, _⟩ => ⟨S16384x512, .f32⟩
  | .hbm, ⟨24, _⟩ => ⟨S16384x128, .f32⟩
  | .hbm, ⟨25, _⟩ => ⟨S16384x128, .f32⟩
  | .hbm, ⟨26, _⟩ => ⟨S16384x1024, .f32⟩
  | .hbm, ⟨27, _⟩ => ⟨S16384x64, .f32⟩
  | .hbm, ⟨28, _⟩ => ⟨S16384x16, .f32⟩
  | .hbm, ⟨29, _⟩ => ⟨S16384x1792, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x48, .f32⟩
  | .hbm, ⟨34, _⟩ => ⟨S16384x3584, .f32⟩
  | .hbm, ⟨35, _⟩ => ⟨S16384x3584, .bf16⟩
  | .hbm, ⟨36, _⟩ => ⟨S16384x2176, .f32⟩
  | .hbm, ⟨37, _⟩ => ⟨S8x2048x128, .f32⟩
  | .hbm, ⟨38, _⟩ => ⟨S8x128x2048, .f32⟩
  | .hbm, ⟨39, _⟩ => ⟨S8x2048x128, .f32⟩
  | .hbm, ⟨40, _⟩ => ⟨S8x128x2048, .f32⟩
  | .hbm, ⟨41, _⟩ => ⟨S16384x1536, .f32⟩
  | .hbm, ⟨42, _⟩ => ⟨S8x2048x1536, .f32⟩
  | .hbm, ⟨43, _⟩ => ⟨S8x1536x2048, .f32⟩
  | .hbm, ⟨44, _⟩ => ⟨S8x1536x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== Sample.lean ====
abbrev S32x32x1024 : Shape := ⟨3, ![32, 32, 1024]⟩
abbrev S1x1024 : Shape := ⟨2, ![1, 1024]⟩
abbrev S1x1024x5712 : Shape := ⟨3, ![1, 1024, 5712]⟩
abbrev S256x256 : Shape := ⟨2, ![256, 256]⟩
abbrev S1024x5712 : Shape := ⟨2, ![1024, 5712]⟩
abbrev S5712x1024 : Shape := ⟨2, ![5712, 1024]⟩
abbrev S_ : Shape := ⟨0, ![]⟩
abbrev S48x1024 : Shape := ⟨2, ![48, 1024]⟩
abbrev S1024x1024 : Shape := ⟨2, ![1024, 1024]⟩
abbrev S512x1024 : Shape := ⟨2, ![512, 1024]⟩
abbrev S1792x1024 : Shape := ⟨2, ![1792, 1024]⟩
abbrev S128x1024 : Shape := ⟨2, ![128, 1024]⟩
abbrev S64x1024 : Shape := ⟨2, ![64, 1024]⟩
abbrev S16x1024 : Shape := ⟨2, ![16, 1024]⟩
abbrev S5760x1024 : Shape := ⟨2, ![5760, 1024]⟩
abbrev S1024 : Shape := ⟨1, ![1024]⟩
abbrev S1024x3584 : Shape := ⟨2, ![1024, 3584]⟩
abbrev S1024x2176 : Shape := ⟨2, ![1024, 2176]⟩
abbrev S512x3584 : Shape := ⟨2, ![512, 3584]⟩
abbrev S512x2176 : Shape := ⟨2, ![512, 2176]⟩
abbrev S512 : Shape := ⟨1, ![512]⟩
abbrev S512x1 : Shape := ⟨2, ![512, 1]⟩
abbrev S512x512 : Shape := ⟨2, ![512, 512]⟩
abbrev S512x128 : Shape := ⟨2, ![512, 128]⟩

abbrev nBuf : Space → Nat
  | .hbm => 24
  | .vmem => 9
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x5712, .f32⟩
  | .hbm, ⟨3, _⟩ => ⟨S256x256, .bf16⟩
  | .hbm, ⟨4, _⟩ => ⟨S1024x5712, .f32⟩
  | .hbm, ⟨5, _⟩ => ⟨S5712x1024, .f32⟩
  | .hbm, ⟨6, _⟩ => ⟨S_, .f32⟩
  | .hbm, ⟨7, _⟩ => ⟨S48x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S512x1024, .f32⟩
  | .hbm, ⟨12, _⟩ => ⟨S1792x1024, .f32⟩
  | .hbm, ⟨13, _⟩ => ⟨S128x1024, .f32⟩
  | .hbm, ⟨14, _⟩ => ⟨S128x1024, .f32⟩
  | .hbm, ⟨15, _⟩ => ⟨S64x1024, .f32⟩
  | .hbm, ⟨16, _⟩ => ⟨S16x1024, .f32⟩
  | .hbm, ⟨17, _⟩ => ⟨S5760x1024, .f32⟩
  | .hbm, ⟨18, _⟩ => ⟨S5760x1024, .bf16⟩
  | .hbm, ⟨19, _⟩ => ⟨S1024x1024, .f32⟩
  | .hbm, ⟨20, _⟩ => ⟨S1024, .f32⟩
  | .hbm, ⟨21, _⟩ => ⟨S1x1024, .f32⟩
  | .hbm, ⟨22, _⟩ => ⟨S1024x3584, .bf16⟩
  | .hbm, ⟨23, _⟩ => ⟨S1024x2176, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5760x1024, .bf16⟩
  | .local _ .vmem, ⟨4, _⟩ => ⟨S256x256, .bf16⟩
  | .local _ .vmem, ⟨5, _⟩ => ⟨S512x3584, .bf16⟩
  | .local _ .vmem, ⟨6, _⟩ => ⟨S512x3584, .bf16⟩
  | .local _ .vmem, ⟨7, _⟩ => ⟨S512x2176, .f32⟩
  | .local _ .vmem, ⟨8, _⟩ => ⟨S512x2176, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5760x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SampleReferenceIdeal.lean ====
abbrev S32x32x1024 : Shape := ⟨3, ![32, 32, 1024]⟩
abbrev S1x1024 : Shape := ⟨2, ![1, 1024]⟩
abbrev S1x1024x5712 : Shape := ⟨3, ![1, 1024, 5712]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1024x5712 : Shape := ⟨2, ![1024, 5712]⟩
abbrev S1024x512 : Shape := ⟨2, ![1024, 512]⟩
abbrev S1024x128 : Shape := ⟨2, ![1024, 128]⟩
abbrev S1024x64 : Shape := ⟨2, ![1024, 64]⟩
abbrev S1024x16 : Shape := ⟨2, ![1024, 16]⟩
abbrev S1024x1792 : Shape := ⟨2, ![1024, 1792]⟩
abbrev S1024x48 : Shape := ⟨2, ![1024, 48]⟩
abbrev S1024x3584 : Shape := ⟨2, ![1024, 3584]⟩
abbrev S1024x2176 : Shape := ⟨2, ![1024, 2176]⟩

abbrev nBuf : Space → Nat
  | .hbm => 37
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x5712, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x5712, .f32⟩
  | .hbm, ⟨22, _⟩ => ⟨S1024x5712, .f32⟩
  | .hbm, ⟨23, _⟩ => ⟨S1024x512, .f32⟩
  | .hbm, ⟨24, _⟩ => ⟨S1024x128, .f32⟩
  | .hbm, ⟨25, _⟩ => ⟨S1024x128, .f32⟩
  | .hbm, ⟨26, _⟩ => ⟨S1024x1024, .f32⟩
  | .hbm, ⟨27, _⟩ => ⟨S1024x64, .f32⟩
  | .hbm, ⟨28, _⟩ => ⟨S1024x16, .f32⟩
  | .hbm, ⟨29, _⟩ => ⟨S1024x1792, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x48, .f32⟩
  | .hbm, ⟨34, _⟩ => ⟨S1024x3584, .f32⟩
  | .hbm, ⟨35, _⟩ => ⟨S1024x3584, .bf16⟩
  | .hbm, ⟨36, _⟩ => ⟨S1024x2176, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.Rows.lean ====
/- Row functions that several of the layer's steps share. -/
module

public import Idealize.ShloMosaic.Lib.Pointwise

@[expose] public section

noncomputable section

open Idealize.ShloMosaic
open scoped BigOperators

namespace Cert.Rows

/-- RMS norm of a row `h` of 1024 numbers with weights `w`, read at `n`. -/
def rms (h w : Fin 1024 → EReal) (n : Fin 1024) : EReal :=
  h n * Ideal.rsqrt (Ideal.div (∑ k, h k * h k) (Ideal.ofBits .f32 0x44800000#32) + Ideal.ofBits .f32 0x358637BD#32) * w n

/-- The weights' columns in the order in which the kernel lays them out: index query, the two gates and the queries first, then
    the branch input, the keys, the values, the index key, the head weights and 48 columns of zeros. -/
def laidOut (w : Fin 1024 → Fin 5712 → EReal) (q : Fin 5760) (k : Fin 1024) : EReal :=
  if h : (q : ℕ) < 1024 then w k ⟨768 + q, by omega⟩
  else if h : (q : ℕ) < 2048 then w k ⟨3664 + (q - 1024), by omega⟩
  else if h : (q : ℕ) < 3072 then w k ⟨4688 + (q - 2048), by omega⟩
  else if h : (q : ℕ) < 3584 then w k ⟨q - 3072, by omega⟩
  else if h : (q : ℕ) < 5376 then w k ⟨1872 + (q - 3584), by omega⟩
  else if h : (q : ℕ) < 5504 then w k ⟨512 + (q - 5376), by omega⟩
  else if h : (q : ℕ) < 5632 then w k ⟨640 + (q - 5504), by omega⟩
  else if h : (q : ℕ) < 5696 then w k ⟨1792 + (q - 5632), by omega⟩
  else if h : (q : ℕ) < 5712 then w k ⟨1856 + (q - 5696), by omega⟩
  else 0

/-- Laid out columns 0 to 1023 are the index query's columns, from column 768 of the weight on. -/
theorem laidOut_indexQuery (w : Fin 1024 → Fin 5712 → EReal) (q : Fin 5760) (k : Fin 1024) (i : Fin 5712) (lo : 0 ≤ (q : ℕ)) (hi : (q : ℕ) < 1024)
    (hq : (i : ℕ) + 0 = q + 768) : laidOut w q k = w k i := by
  unfold laidOut
  rw [dif_pos (by omega)]
  exact congrArg (w k) (Fin.ext (show 768 + (q : ℕ) = (i : ℕ) by omega))

/-- Laid out columns 1024 to 2047 are the first gate's columns, from column 3664 of the weight on. -/
theorem laidOut_gateA (w : Fin 1024 → Fin 5712 → EReal) (q : Fin 5760) (k : Fin 1024) (i : Fin 5712) (lo : 1024 ≤ (q : ℕ)) (hi : (q : ℕ) < 2048)
    (hq : (i : ℕ) + 1024 = q + 3664) : laidOut w q k = w k i := by
  unfold laidOut
  rw [dif_neg (by omega), dif_pos (by omega)]
  exact congrArg (w k) (Fin.ext (show 3664 + ((q : ℕ) - 1024) = (i : ℕ) by omega))

/-- Laid out columns 2048 to 3071 are the second gate's columns, from column 4688 of the weight on. -/
theorem laidOut_gateB (w : Fin 1024 → Fin 5712 → EReal) (q : Fin 5760) (k : Fin 1024) (i : Fin 5712) (lo : 2048 ≤ (q : ℕ)) (hi : (q : ℕ) < 3072)
    (hq : (i : ℕ) + 2048 = q + 4688) : laidOut w q k = w k i := by
  unfold laidOut
  rw [dif_neg (by omega), dif_neg (by omega), dif_pos (by omega)]
  exact congrArg (w k) (Fin.ext (show 4688 + ((q : ℕ) - 2048) = (i : ℕ) by omega))

/-- Laid out columns 3072 to 3583 are the queries' columns, from column 0 of the weight on. -/
theorem laidOut_query (w : Fin 1024 → Fin 5712 → EReal) (q : Fin 5760) (k : Fin 1024) (i : Fin 5712) (lo : 3072 ≤ (q : ℕ)) (hi : (q : ℕ) < 3584)
    (hq : (i : ℕ) + 3072 = q + 0) : laidOut w q k = w k i := by
  unfold laidOut
  rw [dif_neg (by omega), dif_neg (by omega), dif_neg (by omega), dif_pos (by omega)]
  exact congrArg (w k) (Fin.ext (show (q : ℕ) - 3072 = (i : ℕ) by omega))

/-- Laid out columns 3584 to 5375 are the branch input's columns, from column 1872 of the weight on. -/
theorem laidOut_branch (w : Fin 1024 → Fin 5712 → EReal) (q : Fin 5760) (k : Fin 1024) (i : Fin 5712) (lo : 3584 ≤ (q : ℕ)) (hi : (q : ℕ) < 5376)
    (hq : (i : ℕ) + 3584 = q + 1872) : laidOut w q k = w k i := by
  unfold laidOut
  rw [dif_neg (by omega), dif_neg (by omega), dif_neg (by omega), dif_neg (by omega), dif_pos (by omega)]
  exact congrArg (w k) (Fin.ext (show 1872 + ((q : ℕ) - 3584) = (i : ℕ) by omega))

/-- Laid out columns 5376 to 5503 are the keys' columns, from column 512 of the weight on. -/
theorem laidOut_key (w : Fin 1024 → Fin 5712 → EReal) (q : Fin 5760) (k : Fin 1024) (i : Fin 5712) (lo : 5376 ≤ (q : ℕ)) (hi : (q : ℕ) < 5504)
    (hq : (i : ℕ) + 5376 = q + 512) : laidOut w q k = w k i := by
  unfold laidOut
  rw [dif_neg (by omega), dif_neg (by omega), dif_neg (by omega), dif_neg (by omega), dif_neg (by omega), dif_pos (by omega)]
  exact congrArg (w k) (Fin.ext (show 512 + ((q : ℕ) - 5376) = (i : ℕ) by omega))

/-- Laid out columns 5504 to 5631 are the values' columns, from column 640 of the weight on. -/
theorem laidOut_value (w : Fin 1024 → Fin 5712 → EReal) (q : Fin 5760) (k : Fin 1024) (i : Fin 5712) (lo : 5504 ≤ (q : ℕ)) (hi : (q : ℕ) < 5632)
    (hq : (i : ℕ) + 5504 = q + 640) : laidOut w q k = w k i := by
  unfold laidOut
  rw [dif_neg (by omega), dif_neg (by omega), dif_neg (by omega), dif_neg (by omega), dif_neg (by omega), dif_neg (by omega), dif_pos (by omega)]
  exact congrArg (w k) (Fin.ext (show 640 + ((q : ℕ) - 5504) = (i : ℕ) by omega))

/-- Laid out columns 5632 to 5695 are the index key's columns, from column 1792 of the weight on. -/
theorem laidOut_indexKey (w : Fin 1024 → Fin 5712 → EReal) (q : Fin 5760) (k : Fin 1024) (i : Fin 5712) (lo : 5632 ≤ (q : ℕ)) (hi : (q : ℕ) < 5696)
    (hq : (i : ℕ) + 5632 = q + 1792) : laidOut w q k = w k i := by
  unfold laidOut
  rw [dif_neg (by omega), dif_neg (by omega), dif_neg (by omega), dif_neg (by omega), dif_neg (by omega), dif_neg (by omega), dif_neg (by omega), dif_pos (by omega)]
  exact congrArg (w k) (Fin.ext (show 1792 + ((q : ℕ) - 5632) = (i : ℕ) by omega))

/-- Laid out columns 5696 to 5711 are the head weights' columns, from column 1856 of the weight on. -/
theorem laidOut_headWeight (w : Fin 1024 → Fin 5712 → EReal) (q : Fin 5760) (k : Fin 1024) (i : Fin 5712) (lo : 5696 ≤ (q : ℕ)) (hi : (q : ℕ) < 5712)
    (hq : (i : ℕ) + 5696 = q + 1856) : laidOut w q k = w k i := by
  unfold laidOut
  rw [dif_neg (by omega), dif_neg (by omega), dif_neg (by omega), dif_neg (by omega), dif_neg (by omega), dif_neg (by omega), dif_neg (by omega), dif_neg (by omega), dif_pos (by omega)]
  exact congrArg (w k) (Fin.ext (show 1856 + ((q : ℕ) - 5696) = (i : ℕ) by omega))

/-- The last 48 laid out columns are zero. -/
theorem laidOut_zero (w : Fin 1024 → Fin 5712 → EReal) (q : Fin 5760) (k : Fin 1024) (lo : 5712 ≤ (q : ℕ)) : laidOut w q k = 0 := by
  unfold laidOut
  rw [dif_neg (by omega), dif_neg (by omega), dif_neg (by omega), dif_neg (by omega), dif_neg (by omega), dif_neg (by omega), dif_neg (by omega), dif_neg (by omega), dif_neg (by omega)]

/-- A row times the laid out column `q`. -/
def proj (h : Fin 1024 → EReal) (w : Fin 1024 → Fin 5712 → EReal) (q : Fin 5760) : EReal := ∑ k, h k * laidOut w q k

/-- The first result's row from a row `c` of columns: index query, the two gates, the queries. -/
def rowA (c : Fin 5712 → EReal) (j : Fin 3584) : EReal :=
  if h : (j : ℕ) < 1024 then c ⟨768 + (j : ℕ), by omega⟩
  else if h : (j : ℕ) - 1024 < 1024 then c ⟨3664 + ((j : ℕ) - 1024), by omega⟩
  else if h : (j : ℕ) - 1024 - 1024 < 1024 then c ⟨4688 + ((j : ℕ) - 1024 - 1024), by omega⟩
  else c ⟨(j : ℕ) - 1024 - 1024 - 1024, by omega⟩

/-- The second result's row from a row `c` of columns: branch input, keys, values, index key, head weights, zeros. -/
def rowB (c : Fin 5712 → EReal) (j : Fin 2176) : EReal :=
  if h : (j : ℕ) < 1792 then c ⟨1872 + (j : ℕ), by omega⟩
  else if h : (j : ℕ) - 1792 < 128 then c ⟨512 + ((j : ℕ) - 1792), by omega⟩
  else if h : (j : ℕ) - 1792 - 128 < 128 then c ⟨640 + ((j : ℕ) - 1792 - 128), by omega⟩
  else if h : (j : ℕ) - 1792 - 128 - 128 < 64 then c ⟨1792 + ((j : ℕ) - 1792 - 128 - 128), by omega⟩
  else if h : (j : ℕ) - 1792 - 128 - 128 - 64 < 16 then c ⟨1856 + ((j : ℕ) - 1792 - 128 - 128 - 64), by omega⟩
  else 0

/-- The first result's row is the first 3584 laid out columns. -/
theorem rowA_proj (c : Fin 5712 → EReal) (h : Fin 1024 → EReal) (w : Fin 1024 → Fin 5712 → EReal) (hc : ∀ q, c q = ∑ k, h k * w k q) (j : Fin 3584) :
    rowA c j = proj h w ⟨j, by omega⟩ := by
  unfold rowA
  simp only [hc]
  unfold proj
  by_cases h0 : (j : ℕ) < 1024
  · rw [dif_pos (show _ by omega)]
    exact Finset.sum_congr rfl fun k _ => Ideal.mul_congr rfl (laidOut_indexQuery w _ k _ (show 0 ≤ (j : ℕ) by omega) (show (j : ℕ) < 1024 by omega) (by dsimp only; omega)).symm
  by_cases h1 : (j : ℕ) < 2048
  · rw [dif_neg (show ¬ _ by omega), dif_pos (show _ by omega)]
    exact Finset.sum_congr rfl fun k _ => Ideal.mul_congr rfl (laidOut_gateA w _ k _ (show 1024 ≤ (j : ℕ) by omega) (show (j : ℕ) < 2048 by omega) (by dsimp only; omega)).symm
  by_cases h2 : (j : ℕ) < 3072
  · rw [dif_neg (show ¬ _ by omega), dif_neg (show ¬ _ by omega), dif_pos (show _ by omega)]
    exact Finset.sum_congr rfl fun k _ => Ideal.mul_congr rfl (laidOut_gateB w _ k _ (show 2048 ≤ (j : ℕ) by omega) (show (j : ℕ) < 3072 by omega) (by dsimp only; omega)).symm
  rw [dif_neg (show ¬ _ by omega), dif_neg (show ¬ _ by omega), dif_neg (show ¬ _ by omega)]
  exact Finset.sum_congr rfl fun k _ => Ideal.mul_congr rfl (laidOut_query w _ k _ (show 3072 ≤ (j : ℕ) by omega) (show (j : ℕ) < 3584 by omega) (by dsimp only; omega)).symm

/-- The second result's row is the other laid out columns. -/
theorem rowB_proj (c : Fin 5712 → EReal) (h : Fin 1024 → EReal) (w : Fin 1024 → Fin 5712 → EReal) (hc : ∀ q, c q = ∑ k, h k * w k q) (j : Fin 2176) :
    rowB c j = proj h w ⟨3584 + j, by omega⟩ := by
  unfold rowB
  simp only [hc]
  unfold proj
  by_cases h0 : (j : ℕ) < 1792
  · rw [dif_pos (show _ by omega)]
    exact Finset.sum_congr rfl fun k _ => Ideal.mul_congr rfl (laidOut_branch w _ k _ (show 3584 ≤ 3584 + (j : ℕ) by omega) (show 3584 + (j : ℕ) < 5376 by omega) (by dsimp only; omega)).symm
  by_cases h1 : (j : ℕ) < 1920
  · rw [dif_neg (show ¬ _ by omega), dif_pos (show _ by omega)]
    exact Finset.sum_congr rfl fun k _ => Ideal.mul_congr rfl (laidOut_key w _ k _ (show 5376 ≤ 3584 + (j : ℕ) by omega) (show 3584 + (j : ℕ) < 5504 by omega) (by dsimp only; omega)).symm
  by_cases h2 : (j : ℕ) < 2048
  · rw [dif_neg (show ¬ _ by omega), dif_neg (show ¬ _ by omega), dif_pos (show _ by omega)]
    exact Finset.sum_congr rfl fun k _ => Ideal.mul_congr rfl (laidOut_value w _ k _ (show 5504 ≤ 3584 + (j : ℕ) by omega) (show 3584 + (j : ℕ) < 5632 by omega) (by dsimp only; omega)).symm
  by_cases h3 : (j : ℕ) < 2112
  · rw [dif_neg (show ¬ _ by omega), dif_neg (show ¬ _ by omega), dif_neg (show ¬ _ by omega), dif_pos (show _ by omega)]
    exact Finset.sum_congr rfl fun k _ => Ideal.mul_congr rfl (laidOut_indexKey w _ k _ (show 5632 ≤ 3584 + (j : ℕ) by omega) (show 3584 + (j : ℕ) < 5696 by omega) (by dsimp only; omega)).symm
  by_cases h4 : (j : ℕ) < 2128
  · rw [dif_neg (show ¬ _ by omega), dif_neg (show ¬ _ by omega), dif_neg (show ¬ _ by omega), dif_neg (show ¬ _ by omega), dif_pos (show _ by omega)]
    exact Finset.sum_congr rfl fun k _ => Ideal.mul_congr rfl (laidOut_headWeight w _ k _ (show 5696 ≤ 3584 + (j : ℕ) by omega) (show 3584 + (j : ℕ) < 5712 by omega) (by dsimp only; omega)).symm
  rw [dif_neg (show ¬ _ by omega), dif_neg (show ¬ _ by omega), dif_neg (show ¬ _ by omega), dif_neg (show ¬ _ by omega), dif_neg (show ¬ _ by omega)]
  refine (Finset.sum_eq_zero fun k _ => ?_).symm
  rw [laidOut_zero w _ k (show 5712 ≤ 3584 + (j : ℕ) by omega), mul_zero]

end Cert.Rows
-- ==== Proof.FfnRows.lean ====
/- The layer's last step (gates, output projections, SwiGLU, final norm) as a function of one row: what the kernel's
   stored block and the plain reference both compute, read at one element. -/
module

public import proofs.«01_k».proof.Proof.Gen.KernelIdeal.Skeleton
public import proofs.«01_k».proof.Proof.Gen.ReferenceIdeal
public import proofs.«01_k».proof.Proof.Rows

@[expose] public section

set_option maxRecDepth 16384

noncomputable section

open Idealize.ShloMosaic Idealize.ShloMosaic.TcCoe Idealize.SL.Sem
open scoped BigOperators

namespace Cert.Ffn

open Cert.Rows (rms)

/-- The logistic function. -/
def logistic (x : EReal) : EReal := Ideal.div 1 (1 + Ideal.exp (-x))

/-- The gated sum of the two branches, read at column `k`. -/
def merged (ga gb : Fin 1024 → EReal) (oa ob : Fin 512 → EReal) (wa wb : Fin 512 → Fin 1024 → EReal) (k : Fin 1024) : EReal :=
  logistic (ga k) * (∑ j, oa j * wa j k) + logistic (gb k) * ∑ j, ob j * wb j k

/-- One hidden unit of the SwiGLU, from the normed row and the unit's two columns of weights. -/
def hiddenUnit (hn gate up : Fin 1024 → EReal) : EReal :=
  (∑ k, hn k * gate k) * logistic (∑ k, hn k * gate k) * ∑ k, hn k * up k

section Kernel
open Cert.KernelIdeal Cert.KernelIdeal.Gen

/-- The gated sum of the two branches times the output weight, read at one element of a block. -/
theorem pay2_at (v0 : Vec Ideal S512x1024 .bf16) (v9 : Vec Ideal S512x512 .bf16) (v10 : Vec Ideal S512x1024 .bf16) (v14 : Vec Ideal S512x1024 .bf16)
    (v23 : Vec Ideal S512x512 .bf16) (v24 : Vec Ideal S512x1024 .bf16) (v31 : Vec Ideal S1024x1024 .bf16) (r : Fin 512) (n : Fin 1024) :
    k0_pay2 (F := Ideal) v0 v9 v10 v14 v23 v24 v31 (ix2 r n) = ∑ k : Fin 1024, merged (fun k => v0 (ix2 r k)) (fun k => v14 (ix2 r k)) (fun j => v9 (ix2 r j)) (fun j => v23 (ix2 r j))
      (fun j k => v10 (ix2 j k)) (fun j k => v24 (ix2 j k)) k * v31 (ix2 k n) := by
  pointwise [k0_pay2, merged, logistic, zero_sub]

/-- The normed row of the sum of the block of `x` and that product. -/
theorem pay4_at (v29 v33 : FVec Ideal S512x1024 .f32) (v35 : Vec Ideal S1x1024 .f32) (r : Fin 512) (n : Fin 1024) :
    k0_pay4 (F := Ideal) v29 v33 v35 (ix2 r n) = rms (fun k => k0_pay3 (F := Ideal) v29 v33 (ix2 r k)) (fun k => v35 (ix2 0 k)) n := by
  pointwise [k0_pay4, rms]

/-- The residual and the first 1024 hidden units, summed into column `n`. -/
theorem pay5_at (v29 v33 : FVec Ideal S512x1024 .f32) (v35 : Vec Ideal S1x1024 .f32) (v50 v53 v66 : Vec Ideal S1024x1024 .bf16) (r : Fin 512) (n : Fin 1024) :
    k0_pay5 (F := Ideal) v29 v33 v35 v50 v53 v66 (ix2 r n) = k0_pay3 (F := Ideal) v29 v33 (ix2 r n) + ∑ d : Fin 1024,
      hiddenUnit (fun k => k0_pay4 (F := Ideal) v29 v33 v35 (ix2 r k)) (fun k => v50 (ix2 k d)) (fun k => v53 (ix2 k d)) * v66 (ix2 d n) := by
  pointwise [k0_pay5, hiddenUnit, logistic, zero_sub]

/-- The second 1024 hidden units' gate products. -/
theorem pay6_at (v29 v33 : FVec Ideal S512x1024 .f32) (v35 : Vec Ideal S1x1024 .f32) (v70 : Vec Ideal S1024x1024 .bf16) (r : Fin 512) (n : Fin 1024) :
    k0_pay6 (F := Ideal) v29 v33 v35 v70 (ix2 r n) = ∑ k : Fin 1024, k0_pay4 (F := Ideal) v29 v33 v35 (ix2 r k) * v70 (ix2 k n) := by
  pointwise [k0_pay6]

/-- The second 1024 and the last 768 hidden units, added to what the first 1024 gave. -/
theorem pay7_at (v49 : FVec Ideal S512x1024 .bf16) (v69 v72 : FVec Ideal S512x1024 .f32) (v70 v73 v86 : Vec Ideal S1024x1024 .bf16) (v90 v93 : Vec Ideal S1024x768 .bf16)
    (v106 : Vec Ideal S768x1024 .bf16) (r : Fin 512) (n : Fin 1024) (h72 : ∀ d : Fin 1024, v72 (ix2 r d) = ∑ k : Fin 1024, v49 (ix2 r k) * v70 (ix2 k d)) :
    k0_pay7 (F := Ideal) v49 v69 v72 v73 v86 v90 v93 v106 (ix2 r n) = v69 (ix2 r n)
      + (∑ d : Fin 1024, hiddenUnit (fun k => v49 (ix2 r k)) (fun k => v70 (ix2 k d)) (fun k => v73 (ix2 k d)) * v86 (ix2 d n))
      + ∑ d : Fin 768, hiddenUnit (fun k => v49 (ix2 r k)) (fun k => v90 (ix2 k d)) (fun k => v93 (ix2 k d)) * v106 (ix2 d n) := by
  pointwise [k0_pay7, hiddenUnit, logistic, zero_sub, h72]

/-- The stored block is the final norm of what was summed. -/
theorem pay1_at (v109 : FVec Ideal S512x1024 .f32) (v110 : Vec Ideal S1x1024 .f32) (r : Fin 512) (n : Fin 1024) :
    k0_pay1 (F := Ideal) v109 v110 (ix2 r n) = rms (fun k => v109 (ix2 r k)) (fun k => v110 (ix2 0 k)) n := by
  pointwise [k0_pay1, rms]

end Kernel

section Reference
open Cert.ReferenceIdeal Cert.ReferenceIdeal.Gen

/-- The reference's residual stream after the output projection. -/
def refH (oa ob : FVec Ideal S16384x512 .bf16) (pa : FVec Ideal S16384x3584 .bf16) (x : FVec Ideal S16384x1024 .f32)
    (woa wob : FVec Ideal S1x512x1024 .f32) (wout : FVec Ideal S1x1024x1024 .f32) : FVec Ideal S16384x1024 .f32 :=
  addf x (Host.dotGeneral dot_S16384x1024_S1024x1024_S16384x1024_1_0_0_1_n_n none
    (addf
      (mulf (Host.divf (broadcastInDim S16384x1024 ![] bcast_S_S16384x1024 (constant S_ .f32 0x3F800000#32))
          (addf (broadcastInDim S16384x1024 ![] bcast_S_S16384x1024 (constant S_ .f32 0x3F800000#32))
            (Host.exp (Host.negf (extractStridedSlice S16384x1024 ![0, 1024] (extf .f32 pa bitsLt_bf16_f32) slices_S16384x3584_S16384x1024_0_1024)))))
        (Host.dotGeneral dot_S16384x512_S512x1024_S16384x1024_1_0_0_1_n_n none (extf .f32 oa bitsLt_bf16_f32) (shapeCast _ woa shapeCasts_S1x512x1024_S512x1024)))
      (mulf (Host.divf (broadcastInDim S16384x1024 ![] bcast_S_S16384x1024 (constant S_ .f32 0x3F800000#32))
          (addf (broadcastInDim S16384x1024 ![] bcast_S_S16384x1024 (constant S_ .f32 0x3F800000#32))
            (Host.exp (Host.negf (extractStridedSlice S16384x1024 ![0, 2048] (extf .f32 pa bitsLt_bf16_f32) slices_S16384x3584_S16384x1024_0_2048)))))
        (Host.dotGeneral dot_S16384x512_S512x1024_S16384x1024_1_0_0_1_n_n none (extf .f32 ob bitsLt_bf16_f32) (shapeCast _ wob shapeCasts_S1x512x1024_S512x1024))))
    (shapeCast _ wout shapeCasts_S1x1024x1024_S1024x1024))

/-- The reference's RMS norm. -/
def refNorm (h : FVec Ideal S16384x1024 .f32) (w : FVec Ideal S1024 .f32) : FVec Ideal S16384x1024 .f32 :=
  mulf (mulf h (broadcastInDim S16384x1024 ![0, 1] bcast_S16384x1_S16384x1024_0_1 (Host.rsqrt
      (addf (Host.divf (broadcastInDim S16384x1 ![0] bcast_S16384_S16384x1_0 (Host.reduceAdd (mulf h h) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 w))

/-- The reference's SwiGLU of the normed rows. -/
def refGlu (hn : FVec Ideal S16384x1024 .f32) (wg wu : FVec Ideal S1x1024x2816 .f32) (wd : FVec Ideal S1x2816x1024 .f32) : FVec Ideal S16384x1024 .f32 :=
  Host.dotGeneral dot_S16384x2816_S2816x1024_S16384x1024_1_0_0_1_n_n none
    (mulf
      (mulf (Host.dotGeneral dot_S16384x1024_S1024x2816_S16384x2816_1_0_0_1_n_n none hn (shapeCast _ wg shapeCasts_S1x1024x2816_S1024x2816))
        (Host.divf (broadcastInDim S16384x2816 ![] bcast_S_S16384x2816 (constant S_ .f32 0x3F800000#32))
          (addf (broadcastInDim S16384x2816 ![] bcast_S_S16384x2816 (constant S_ .f32 0x3F800000#32))
            (Host.exp (Host.negf (Host.dotGeneral dot_S16384x1024_S1024x2816_S16384x2816_1_0_0_1_n_n none hn (shapeCast _ wg shapeCasts_S1x1024x2816_S1024x2816)))))))
      (Host.dotGeneral dot_S16384x1024_S1024x2816_S16384x2816_1_0_0_1_n_n none hn (shapeCast _ wu shapeCasts_S1x1024x2816_S1024x2816)))
    (shapeCast _ wd shapeCasts_S1x2816x1024_S2816x1024)

/-- The reference's result as a function of its twelve arguments. -/
def ref (oa ob : FVec Ideal S16384x512 .bf16) (pa : FVec Ideal S16384x3584 .bf16) (x : FVec Ideal S16384x1024 .f32) (n2 : FVec Ideal S1x1024 .f32)
    (nf : FVec Ideal S1024 .f32) (woa wob : FVec Ideal S1x512x1024 .f32) (wout : FVec Ideal S1x1024x1024 .f32) (wg wu : FVec Ideal S1x1024x2816 .f32)
    (wd : FVec Ideal S1x2816x1024 .f32) : FVec Ideal S16384x1024 .f32 :=
  refNorm (addf (refH oa ob pa x woa wob wout)
    (refGlu (refNorm (refH oa ob pa x woa wob wout) (shapeCast _ n2 shapeCasts_S1x1024_S1024)) wg wu wd)) nf

/-- The reference's residual stream read at one element. -/
theorem refH_at (oa ob : FVec Ideal S16384x512 .bf16) (pa : FVec Ideal S16384x3584 .bf16) (x : FVec Ideal S16384x1024 .f32)
    (woa wob : FVec Ideal S1x512x1024 .f32) (wout : FVec Ideal S1x1024x1024 .f32) (r : Fin 16384) (n : Fin 1024) :
    refH oa ob pa x woa wob wout (ix2 r n) = x (ix2 r n) + ∑ k : Fin 1024, merged (fun k => pa (ix2 r ⟨1024 + k, by omega⟩)) (fun k => pa (ix2 r ⟨2048 + k, by omega⟩))
      (fun j => oa (ix2 r j)) (fun j => ob (ix2 r j)) (fun j k => woa (ix3 0 j k)) (fun j k => wob (ix3 0 j k)) k * wout (ix3 0 k n) := by
  pointwise [refH, merged, logistic]

/-- The reference's RMS norm read at one element. -/
theorem refNorm_at (h : FVec Ideal S16384x1024 .f32) (w : FVec Ideal S1024 .f32) (r : Fin 16384) (n : Fin 1024) :
    refNorm h w (ix2 r n) = rms (fun k => h (ix2 r k)) (fun k => w (ix1 k)) n := by
  pointwise [refNorm, rms]

/-- The reference's SwiGLU read at one element. -/
theorem refGlu_at (hn : FVec Ideal S16384x1024 .f32) (wg wu : FVec Ideal S1x1024x2816 .f32) (wd : FVec Ideal S1x2816x1024 .f32) (r : Fin 16384) (n : Fin 1024) :
    refGlu hn wg wu wd (ix2 r n) = ∑ d : Fin 2816, hiddenUnit (fun k => hn (ix2 r k)) (fun k => wg (ix3 0 k d)) (fun k => wu (ix3 0 k d)) * wd (ix3 0 d n) := by
  pointwise [refGlu, hiddenUnit, logistic]

/-- A sum over the 2816 hidden units, cut where the kernel cuts it. -/
theorem sum_units (f : Fin 2816 → EReal) :
    ∑ d, f d = (∑ d : Fin 1024, f ⟨d, by omega⟩) + (∑ d : Fin 1024, f ⟨1024 + d, by omega⟩) + ∑ d : Fin 768, f ⟨2048 + d, by omega⟩ := by
  rw [Fin.sum_univ_add (a := 2048) (b := 768) f, Fin.sum_univ_add (a := 1024) (b := 1024) (fun i => f (Fin.castAdd 768 i))]
  rfl

/-- The reference's result read at one element, its sum over the hidden units cut in three. -/
theorem ref_at (oa ob : FVec Ideal S16384x512 .bf16) (pa : FVec Ideal S16384x3584 .bf16) (x : FVec Ideal S16384x1024 .f32) (n2 : FVec Ideal S1x1024 .f32)
    (nf : FVec Ideal S1024 .f32) (woa wob : FVec Ideal S1x512x1024 .f32) (wout : FVec Ideal S1x1024x1024 .f32) (wg wu : FVec Ideal S1x1024x2816 .f32)
    (wd : FVec Ideal S1x2816x1024 .f32) (r : Fin 16384) (n : Fin 1024) (h hn : Fin 1024 → EReal)
    (hh : ∀ k, refH oa ob pa x woa wob wout (ix2 r k) = h k) (hhn : ∀ k, rms h (fun k => n2 (ix2 0 k)) k = hn k) :
    ref oa ob pa x n2 nf woa wob wout wg wu wd (ix2 r n) = rms (fun k => h k
      + (∑ d : Fin 1024, hiddenUnit hn (fun k => wg (ix3 0 k ⟨d, by omega⟩)) (fun k => wu (ix3 0 k ⟨d, by omega⟩)) * wd (ix3 0 ⟨d, by omega⟩ k))
      + (∑ d : Fin 1024, hiddenUnit hn (fun k => wg (ix3 0 k ⟨1024 + d, by omega⟩)) (fun k => wu (ix3 0 k ⟨1024 + d, by omega⟩)) * wd (ix3 0 ⟨1024 + d, by omega⟩ k))
      + ∑ d : Fin 768, hiddenUnit hn (fun k => wg (ix3 0 k ⟨2048 + d, by omega⟩)) (fun k => wu (ix3 0 k ⟨2048 + d, by omega⟩)) * wd (ix3 0 ⟨2048 + d, by omega⟩ k))
      (fun k => nf (ix1 k)) n := by
  have hn' : ∀ k, refNorm (refH oa ob pa x woa wob wout) (shapeCast _ n2 shapeCasts_S1x1024_S1024) (ix2 r k) = hn k := fun k => by
    rw [refNorm_at, ← hhn, funext hh]; congr 1; funext k; pointwise
  rw [ref, refNorm_at]
  congr 1
  funext k
  pointwise [refGlu_at, hh, hn', sum_units, add_assoc]

end Reference

end Cert.Ffn
-- ==== Proof.FfnValue.lean ====
/- The result array of the layer's last step, as the kernel leaves it after its 32 grid points, is the reference's. -/
module

public import proofs.«01_k».proof.Proof.FfnRows
public import proofs.«01_k».proof.Proof.Gen.KernelIdeal.Value
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Ffn

open Cert.KernelIdeal Cert.KernelIdeal.Gen
open Cert.Rows (rms)

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 1] ∧ win0_3.index t = ![t.val, 2]
    ∧ win0_4.index t = ![t.val, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![t.val, 0] :=
  (by decide +kernel : ∀ t : Fin grid0.N, _)

/-- What the body stores, read at row `r` and column `n` of a block whose buffers hold the named parts of the arguments
    (row `R` of the arrays of rows, the three cuts of the hidden units), is the reference's result at row `R`. -/
theorem body_at (oa ob : FVec Ideal Cert.ReferenceIdeal.S16384x512 .bf16) (pa : FVec Ideal Cert.ReferenceIdeal.S16384x3584 .bf16)
    (x : FVec Ideal Cert.ReferenceIdeal.S16384x1024 .f32) (n2 : FVec Ideal Cert.ReferenceIdeal.S1x1024 .f32)
    (nf : FVec Ideal Cert.ReferenceIdeal.S1024 .f32) (woa wob : FVec Ideal Cert.ReferenceIdeal.S1x512x1024 .f32)
    (wout : FVec Ideal Cert.ReferenceIdeal.S1x1024x1024 .f32) (wg wu : FVec Ideal Cert.ReferenceIdeal.S1x1024x2816 .f32)
    (wd : FVec Ideal Cert.ReferenceIdeal.S1x2816x1024 .f32)
    (ga gb : Vec Ideal S512x1024 .bf16) (xa xb : Vec Ideal S512x512 .bf16) (wa wb : Vec Ideal S512x1024 .bf16) (wo : Vec Ideal S1024x1024 .bf16)
    (xr : FVec Ideal S512x1024 .f32) (w2 wf : Vec Ideal S1x1024 .f32) (g0 u0 d0 g1 u1 d1 : Vec Ideal S1024x1024 .bf16)
    (g2 u2 : Vec Ideal S1024x768 .bf16) (d2 : Vec Ideal S768x1024 .bf16) (r : Fin 512) (R : Fin 16384) (n : Fin 1024)
    (hga : ∀ k : Fin 1024, ga (ix2 r k) = pa (ix2 R ⟨1024 + k, by omega⟩)) (hgb : ∀ k : Fin 1024, gb (ix2 r k) = pa (ix2 R ⟨2048 + k, by omega⟩))
    (hxa : ∀ k, xa (ix2 r k) = oa (ix2 R k)) (hxb : ∀ k, xb (ix2 r k) = ob (ix2 R k))
    (hwa : ∀ j k, wa (ix2 j k) = woa (ix3 0 j k)) (hwb : ∀ j k, wb (ix2 j k) = wob (ix3 0 j k)) (hwo : ∀ j k, wo (ix2 j k) = wout (ix3 0 j k))
    (hxr : ∀ k, xr (ix2 r k) = x (ix2 R k)) (hw2 : ∀ k, w2 (ix2 0 k) = n2 (ix2 0 k)) (hwf : ∀ k, wf (ix2 0 k) = nf (ix1 k))
    (hg0 : ∀ (k : Fin 1024) (d : Fin 1024), g0 (ix2 k d) = wg (ix3 0 k ⟨d, by omega⟩)) (hu0 : ∀ (k : Fin 1024) (d : Fin 1024), u0 (ix2 k d) = wu (ix3 0 k ⟨d, by omega⟩))
    (hd0 : ∀ (k : Fin 1024) (d : Fin 1024), d0 (ix2 d k) = wd (ix3 0 ⟨d, by omega⟩ k))
    (hg1 : ∀ (k : Fin 1024) (d : Fin 1024), g1 (ix2 k d) = wg (ix3 0 k ⟨1024 + d, by omega⟩)) (hu1 : ∀ (k : Fin 1024) (d : Fin 1024), u1 (ix2 k d) = wu (ix3 0 k ⟨1024 + d, by omega⟩))
    (hd1 : ∀ (k : Fin 1024) (d : Fin 1024), d1 (ix2 d k) = wd (ix3 0 ⟨1024 + d, by omega⟩ k))
    (hg2 : ∀ (k : Fin 1024) (d : Fin 768), g2 (ix2 k d) = wg (ix3 0 k ⟨2048 + d, by omega⟩)) (hu2 : ∀ (k : Fin 1024) (d : Fin 768), u2 (ix2 k d) = wu (ix3 0 k ⟨2048 + d, by omega⟩))
    (hd2 : ∀ (k : Fin 1024) (d : Fin 768), d2 (ix2 d k) = wd (ix3 0 ⟨2048 + d, by omega⟩ k)) :
    k0_pay1 (F := Ideal) (k0_pay7 (F := Ideal) (k0_pay4 (F := Ideal) xr (k0_pay2 (F := Ideal) ga xa wa gb xb wb wo) w2)
      (k0_pay5 (F := Ideal) xr (k0_pay2 (F := Ideal) ga xa wa gb xb wb wo) w2 g0 u0 d0) (k0_pay6 (F := Ideal) xr (k0_pay2 (F := Ideal) ga xa wa gb xb wb wo) w2 g1) u1 d1 g2 u2 d2) wf (ix2 r n)
      = ref oa ob pa x n2 nf woa wob wout wg wu wd (ix2 R n) := by
  have hh : ∀ k, k0_pay3 (F := Ideal) xr (k0_pay2 (F := Ideal) ga xa wa gb xb wb wo) (ix2 r k) = refH oa ob pa x woa wob wout (ix2 R k) := fun k => by
    pointwise [k0_pay3, pay2_at, refH_at, hga, hgb, hxa, hxb, hwa, hwb, hwo, hxr]
  have hhn : ∀ k, k0_pay4 (F := Ideal) xr (k0_pay2 (F := Ideal) ga xa wa gb xb wb wo) w2 (ix2 r k)
      = rms (fun k => refH oa ob pa x woa wob wout (ix2 R k)) (fun k => n2 (ix2 0 k)) k := fun k => by
    rw [pay4_at, funext hh, funext hw2]
  rw [ref_at oa ob pa x n2 nf woa wob wout wg wu wd R n _ _ (fun _ => rfl) (fun _ => rfl), pay1_at, funext hwf]
  congr 1
  funext k
  rw [pay7_at _ _ _ g1 _ _ _ _ _ r k (fun d => pay6_at _ _ _ _ r d), pay5_at, hh]
  simp only [hhn, hg0, hu0, hd0, hg1, hu1, hd1, hg2, hu2, hd2]

/-- The two gates' buffers hold columns 1024 to 2047 and 2048 to 3071 of the point's rows. -/
theorem gate_a (c : Dev nD) (t : Fin cfg0.N) (r : Fin 512) (k : Fin 1024) (R : Fin 16384) (hR : (R : ℕ) = 512 * t.val + r) :
    (show FVec Ideal S512x1024 .bf16 from X0_2 m c t) (ix2 r k) = m ((c : Thread nD τ).loc main_arg2) (ix2 R ⟨1024 + k, by omega⟩) := by
  unfold X0_2 Pipeline.Window.fill
  refine (dif_pos (moved0_2 t _)).trans ?_
  blk_point [iblk, V, idx t]

/-- The second gate's buffer likewise. -/
theorem gate_b (c : Dev nD) (t : Fin cfg0.N) (r : Fin 512) (k : Fin 1024) (R : Fin 16384) (hR : (R : ℕ) = 512 * t.val + r) :
    (show FVec Ideal S512x1024 .bf16 from X0_3 m c t) (ix2 r k) = m ((c : Thread nD τ).loc main_arg2) (ix2 R ⟨2048 + k, by omega⟩) := by
  unfold X0_3 Pipeline.Window.fill
  refine (dif_pos (moved0_3 t _)).trans ?_
  blk_point [iblk, V, idx t]

/-- The buffers of the three weights of the SwiGLU hold the whole weights. -/
theorem weight_gate (c : Dev nD) (t : Fin cfg0.N) (k : Fin 1024) (d : Fin 2816) :
    (show FVec Ideal S1024x2816 .bf16 from iblk m c 10 t) (ix2 k d) = m ((c : Thread nD τ).loc main_arg9) (ix3 0 k d) := by
  blk_point [iblk, V, idx t]

/-- The second weight. -/
theorem weight_up (c : Dev nD) (t : Fin cfg0.N) (k : Fin 1024) (d : Fin 2816) :
    (show FVec Ideal S1024x2816 .bf16 from iblk m c 11 t) (ix2 k d) = m ((c : Thread nD τ).loc main_arg10) (ix3 0 k d) := by
  blk_point [iblk, V, idx t]

/-- The third weight. -/
theorem weight_down (c : Dev nD) (t : Fin cfg0.N) (d : Fin 2816) (k : Fin 1024) :
    (show FVec Ideal S2816x1024 .bf16 from iblk m c 12 t) (ix2 d k) = m ((c : Thread nD τ).loc main_arg11) (ix3 0 d k) := by
  blk_point [iblk, V, idx t]

set_option maxHeartbeats 2000000 in
/-- The array of results after the 32 points is the reference's result. -/
theorem final (c : Dev nD) : (dats m 0 c).arrAt 13 (cfgs 0).N = ref (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) (m ((c : Thread nD τ).loc main_arg11)) := by
  refine (dats m 0 c).arrAt_eq_of_covers 13 _ (by decide +kernel) fun t hf y => ?_
  have ht : t.val < 32 := lt_of_lt_of_eq t.isLt (by decide)
  obtain ⟨r, n, rfl⟩ : ∃ (r : Fin 512) (n : Fin 1024), y = (ix2 r n : S512x1024.Idx) := ⟨y 0, y 1, eq_ix2 (show S512x1024.Idx from y)⟩
  blk_simp
  rw [after0_13]
  unfold outsAt0
  frame_out
  have hemb : ((View.whole main_v15).slice (win0_13.rect t)).emb (ix2 r n) = (ix2 ⟨512 * t.val + r, by omega⟩ n : S16384x1024.Idx) := by
    blk_ext [idx t]
  rw [hemb]
  refine body_at _ _ _ _ _ _ _ _ _ _ _ _ _ _ _ _ _ _ _ _ _ _ _ _ _ _ _ _ _ _ _ r _ n ?_ ?_ ?_ ?_ ?_ ?_ ?_ ?_ ?_ ?_ ?_ ?_ ?_ ?_ ?_ ?_ ?_ ?_ ?_
  · exact fun k => gate_a m c t r k _ rfl
  · exact fun k => gate_b m c t r k _ rfl
  all_goals intros
  iterate 8 (first | (pointwise; blk_point [iblk, V, idx t]) | blk_point [iblk, V, idx t])
  all_goals pointwise
  all_goals first
    | (refine (weight_gate m c t _ _).trans ?_; blk_ext)
    | (refine (weight_up m c t _ _).trans ?_; blk_ext)
    | (refine (weight_down m c t _ _).trans ?_; blk_ext)

end Cert.Ffn
-- ==== Proof.PromptRows.lean ====
/- The combined projection of the prompt: the kernel's stored chunks and the plain reference, read at one element. -/
module

public import proofs.«01_k».proof.Proof.Rows
public import proofs.«01_k».proof.Proof.Gen.PromptIdeal.Skeleton
public import proofs.«01_k».proof.Proof.Gen.PromptReferenceIdeal

@[expose] public section

set_option maxRecDepth 16384

noncomputable section

open Idealize.ShloMosaic Idealize.ShloMosaic.TcCoe Idealize.SL.Sem
open Cert.Rows
open scoped BigOperators

namespace Cert.Prompt2

section Kernel
open Cert.PromptIdeal Cert.PromptIdeal.Gen

/-- The normed rows. -/
theorem normed_at (x : Vec Ideal S512x1024 .f32) (w : Vec Ideal S1x1024 .f32) (r : Fin 512) (k : Fin 1024) :
    k0_pay4 (F := Ideal) x w (ix2 r k) = rms (fun k => x (ix2 r k)) (fun k => w (ix2 0 k)) k := by
  pointwise [k0_pay4, rms]

/-- The weight as the kernel's host lays it out: the transposed weight's row groups, stacked, and 48 rows of zeros. -/
def laid (w : FVec Ideal S1x1024x5712 .f32) : FVec Ideal S5760x1024 .bf16 :=
  have wt := transpose S5712x1024 [1, 0] (shapeCast S1024x5712 w shapeCasts_S1x1024x5712_S1024x5712) transposes_S1024x5712_S5712x1024_1_0
  truncf .bf16 (concatenate S5760x1024 0
    [⟨S1024x1024, extractStridedSlice S1024x1024 ![768, 0] wt slices_S5712x1024_S1024x1024_768_0⟩,
     ⟨S1024x1024, extractStridedSlice S1024x1024 ![3664, 0] wt slices_S5712x1024_S1024x1024_3664_0⟩,
     ⟨S1024x1024, extractStridedSlice S1024x1024 ![4688, 0] wt slices_S5712x1024_S1024x1024_4688_0⟩,
     ⟨S512x1024, extractStridedSlice S512x1024 ![0, 0] wt slices_S5712x1024_S512x1024_0_0⟩,
     ⟨S1792x1024, extractStridedSlice S1792x1024 ![1872, 0] wt slices_S5712x1024_S1792x1024_1872_0⟩,
     ⟨S128x1024, extractStridedSlice S128x1024 ![512, 0] wt slices_S5712x1024_S128x1024_512_0⟩,
     ⟨S128x1024, extractStridedSlice S128x1024 ![640, 0] wt slices_S5712x1024_S128x1024_640_0⟩,
     ⟨S64x1024, extractStridedSlice S64x1024 ![1792, 0] wt slices_S5712x1024_S64x1024_1792_0⟩,
     ⟨S16x1024, extractStridedSlice S16x1024 ![1856, 0] wt slices_S5712x1024_S16x1024_1856_0⟩,
     ⟨S48x1024, broadcastInDim S48x1024 ![] bcast_S_S48x1024 (constant S_ .f32 0x00000000#32)⟩]
    concatenates_S1024x1024_S1024x1024_S1024x1024_S512x1024_S1792x1024_S128x1024_S128x1024_S64x1024_S16x1024_S48x1024_S5760x1024_d0) bitsLt_bf16_f32

/-- The laid out weight read at one element. -/
theorem laid_at (w : FVec Ideal S1x1024x5712 .f32) (q : Fin 5760) (k : Fin 1024) : laid w (ix2 q k) = laidOut (fun k q => w (ix3 0 k q)) q k := by
  pointwise [laid]
  by_cases h0 : (q : ℕ) < 1024
  · rw [dif_pos (show _ by omega)]
    exact (laidOut_indexQuery (fun k q => w (ix3 0 k q)) q k _ (by omega) h0 (by dsimp only; omega)).symm
  by_cases h1 : (q : ℕ) < 2048
  · rw [dif_neg (show ¬ _ by omega), dif_pos (show _ by omega)]
    exact (laidOut_gateA (fun k q => w (ix3 0 k q)) q k _ (by omega) h1 (by dsimp only; omega)).symm
  by_cases h2 : (q : ℕ) < 3072
  · rw [dif_neg (show ¬ _ by omega), dif_neg (show ¬ _ by omega), dif_pos (show _ by omega)]
    exact (laidOut_gateB (fun k q => w (ix3 0 k q)) q k _ (by omega) h2 (by dsimp only; omega)).symm
  by_cases h3 : (q : ℕ) < 3584
  · rw [dif_neg (show ¬ _ by omega), dif_neg (show ¬ _ by omega), dif_neg (show ¬ _ by omega), dif_pos (show _ by omega)]
    exact (laidOut_query (fun k q => w (ix3 0 k q)) q k _ (by omega) h3 (by dsimp only; omega)).symm
  by_cases h4 : (q : ℕ) < 5376
  · rw [dif_neg (show ¬ _ by omega), dif_neg (show ¬ _ by omega), dif_neg (show ¬ _ by omega), dif_neg (show ¬ _ by omega), dif_pos (show _ by omega)]
    exact (laidOut_branch (fun k q => w (ix3 0 k q)) q k _ (by omega) h4 (by dsimp only; omega)).symm
  by_cases h5 : (q : ℕ) < 5504
  · rw [dif_neg (show ¬ _ by omega), dif_neg (show ¬ _ by omega), dif_neg (show ¬ _ by omega), dif_neg (show ¬ _ by omega), dif_neg (show ¬ _ by omega), dif_pos (show _ by omega)]
    exact (laidOut_key (fun k q => w (ix3 0 k q)) q k _ (by omega) h5 (by dsimp only; omega)).symm
  by_cases h6 : (q : ℕ) < 5632
  · rw [dif_neg (show ¬ _ by omega), dif_neg (show ¬ _ by omega), dif_neg (show ¬ _ by omega), dif_neg (show ¬ _ by omega), dif_neg (show ¬ _ by omega), dif_neg (show ¬ _ by omega), dif_pos (show _ by omega)]
    exact (laidOut_value (fun k q => w (ix3 0 k q)) q k _ (by omega) h6 (by dsimp only; omega)).symm
  by_cases h7 : (q : ℕ) < 5696
  · rw [dif_neg (show ¬ _ by omega), dif_neg (show ¬ _ by omega), dif_neg (show ¬ _ by omega), dif_neg (show ¬ _ by omega), dif_neg (show ¬ _ by omega), dif_neg (show ¬ _ by omega), dif_neg (show ¬ _ by omega), dif_pos (show _ by omega)]
    exact (laidOut_indexKey (fun k q => w (ix3 0 k q)) q k _ (by omega) h7 (by dsimp only; omega)).symm
  by_cases h8 : (q : ℕ) < 5712
  · rw [dif_neg (show ¬ _ by omega), dif_neg (show ¬ _ by omega), dif_neg (show ¬ _ by omega), dif_neg (show ¬ _ by omega), dif_neg (show ¬ _ by omega), dif_neg (show ¬ _ by omega), dif_neg (show ¬ _ by omega), dif_neg (show ¬ _ by omega), dif_pos (show _ by omega)]
    exact (laidOut_headWeight (fun k q => w (ix3 0 k q)) q k _ (by omega) h8 (by dsimp only; omega)).symm
  rw [dif_neg (show ¬ _ by omega), dif_neg (show ¬ _ by omega), dif_neg (show ¬ _ by omega), dif_neg (show ¬ _ by omega), dif_neg (show ¬ _ by omega), dif_neg (show ¬ _ by omega), dif_neg (show ¬ _ by omega), dif_neg (show ¬ _ by omega), dif_neg (show ¬ _ by omega)]
  exact (laidOut_zero (fun k q => w (ix3 0 k q)) q k (by omega)).symm

/-- A chunk of the first result: 512 columns of the projection. -/
theorem chunk_a (xn : FVec Ideal S512x1024 .bf16) (w : Vec Ideal S512x1024 .bf16) (r c : Fin 512) :
    k0_pay8 (F := Ideal) xn w (ix2 r c) = ∑ k : Fin 1024, xn (ix2 r k) * w (ix2 c k) := by
  pointwise [k0_pay8]

/-- A chunk of the second result: 512 columns of the projection. -/
theorem chunk_b (xn : FVec Ideal S512x1024 .bf16) (w : Vec Ideal S512x1024 .bf16) (r c : Fin 512) :
    k0_pay12 (F := Ideal) xn w (ix2 r c) = ∑ k : Fin 1024, xn (ix2 r k) * w (ix2 c k) := by
  pointwise [k0_pay12]

/-- The last chunk of the second result: 128 columns of the projection. -/
theorem chunk_last (xn : FVec Ideal S512x1024 .bf16) (w : Vec Ideal S128x1024 .bf16) (r : Fin 512) (c : Fin 128) :
    k0_pay16 (F := Ideal) xn w (ix2 r c) = ∑ k : Fin 1024, xn (ix2 r k) * w (ix2 c k) := by
  pointwise [k0_pay16]

/-- The keys' and values' blocks are transposed. -/
theorem turned (v : Vec Ideal S512x128 .f32) (j : Fin 128) (s : Fin 512) : k0_pay17 (F := Ideal) v (ix3 0 j s) = v (ix2 s j) := by
  pointwise [k0_pay17]

/-- The queries' blocks are transposed by the identity. -/
theorem turned_eye (v : Vec Ideal S512x256 .bf16) (e : Vec Ideal S256x256 .bf16) (he : ∀ a b : Fin 256, e (ix2 a b) = if a = b then 1 else 0) (j : Fin 256) (s : Fin 512) :
    k0_pay2 (F := Ideal) v e (ix3 0 j s) = v (ix2 s j) := by
  pointwise [k0_pay2]
  simp only [he, ite_mul, one_mul, zero_mul, Finset.sum_ite_eq, Finset.mem_univ, if_true]

end Kernel

section Reference
open Cert.PromptReferenceIdeal Cert.PromptReferenceIdeal.Gen

/-- The reference's combined projection: every row's norm times the whole weight. -/
def refCols (x : FVec Ideal S8x2048x1024 .f32) (n1 : FVec Ideal S1x1024 .f32) (w : FVec Ideal S1x1024x5712 .f32) : FVec Ideal S16384x5712 .f32 :=
  Host.dotGeneral dot_S16384x1024_S1024x5712_S16384x5712_1_0_0_1_n_n none
    (mulf (mulf (shapeCast _ x shapeCasts_S8x2048x1024_S16384x1024) (broadcastInDim S16384x1024 ![0, 1] bcast_S16384x1_S16384x1024_0_1 (Host.rsqrt
      (addf (Host.divf (broadcastInDim S16384x1 ![0] bcast_S16384_S16384x1_0 (Host.reduceAdd (mulf (shapeCast _ x shapeCasts_S8x2048x1024_S16384x1024)
            (shapeCast _ x shapeCasts_S8x2048x1024_S16384x1024)) (constant S_ .f32 0x00000000#32) reducesTo_S16384x1024_S16384_d1 h_S_))
          (broadcastInDim S16384x1 ![] bcast_S_S16384x1 (constant S_ .f32 0x44800000#32)))
        (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 (shapeCast _ n1 shapeCasts_S1x1024_S1024))))
    (shapeCast _ w shapeCasts_S1x1024x5712_S1024x5712)

/-- The reference's columns read at one element: a normed row times a column of the weight. -/
theorem refCols_at (x : FVec Ideal S8x2048x1024 .f32) (n1 : FVec Ideal S1x1024 .f32) (w : FVec Ideal S1x1024x5712 .f32) (r : Fin 16384) (q : Fin 5712) :
    refCols x n1 w (ix2 r q) = ∑ k : Fin 1024, rms (fun k => x (ix3 ⟨r / 2048, by omega⟩ ⟨r % 2048, by omega⟩ k)) (fun k => n1 (ix2 0 k)) k * w (ix3 0 k q) := by
  pointwise [refCols, rms]

/-- The reference's first result from its columns: index query, the two gates, the queries. -/
def refPa (C : FVec Ideal S16384x5712 .f32) : FVec Ideal S16384x3584 .bf16 :=
  truncf .bf16 (concatenate S16384x3584 1
    [⟨S16384x1024, extractStridedSlice S16384x1024 ![0, 768] C slices_S16384x5712_S16384x1024_0_768⟩,
     ⟨S16384x1024, extractStridedSlice S16384x1024 ![0, 3664] C slices_S16384x5712_S16384x1024_0_3664⟩,
     ⟨S16384x1024, extractStridedSlice S16384x1024 ![0, 4688] C slices_S16384x5712_S16384x1024_0_4688⟩,
     ⟨S16384x512, extractStridedSlice S16384x512 ![0, 0] C slices_S16384x5712_S16384x512_0_0⟩]
    concatenates_S16384x1024_S16384x1024_S16384x1024_S16384x512_S16384x3584_d1) bitsLt_bf16_f32

/-- The reference's second result from its columns: branch input, keys, values, index key, head weights, zeros. -/
def refPb (C : FVec Ideal S16384x5712 .f32) : FVec Ideal S16384x2176 .f32 :=
  concatenate S16384x2176 1
    [⟨S16384x1792, extractStridedSlice S16384x1792 ![0, 1872] C slices_S16384x5712_S16384x1792_0_1872⟩,
     ⟨S16384x128, extractStridedSlice S16384x128 ![0, 512] C slices_S16384x5712_S16384x128_0_512⟩,
     ⟨S16384x128, extractStridedSlice S16384x128 ![0, 640] C slices_S16384x5712_S16384x128_0_640⟩,
     ⟨S16384x64, extractStridedSlice S16384x64 ![0, 1792] C slices_S16384x5712_S16384x64_0_1792⟩,
     ⟨S16384x16, extractStridedSlice S16384x16 ![0, 1856] C slices_S16384x5712_S16384x16_0_1856⟩,
     ⟨S16384x48, broadcastInDim S16384x48 ![] bcast_S_S16384x48 (constant S_ .f32 0x00000000#32)⟩]
    concatenates_S16384x1792_S16384x128_S16384x128_S16384x64_S16384x16_S16384x48_S16384x2176_d1

/-- The reference's keys, one column per token. -/
def refK (C : FVec Ideal S16384x5712 .f32) : FVec Ideal S8x128x2048 .f32 :=
  transpose S8x128x2048 [0, 2, 1] (shapeCast _ (extractStridedSlice S16384x128 ![0, 512] C slices_S16384x5712_S16384x128_0_512) shapeCasts_S16384x128_S8x2048x128)
    transposes_S8x2048x128_S8x128x2048_0_2_1

/-- The reference's values, one column per token. -/
def refV (C : FVec Ideal S16384x5712 .f32) : FVec Ideal S8x128x2048 .f32 :=
  transpose S8x128x2048 [0, 2, 1] (shapeCast _ (extractStridedSlice S16384x128 ![0, 640] C slices_S16384x5712_S16384x128_0_640) shapeCasts_S16384x128_S8x2048x128)
    transposes_S8x2048x128_S8x128x2048_0_2_1

/-- The reference's index queries and queries, one row per token. -/
def queryRows (C : FVec Ideal S16384x5712 .f32) : FVec Ideal S16384x1536 .f32 :=
  concatenate S16384x1536 1
    [⟨S16384x1024, extractStridedSlice S16384x1024 ![0, 768] C slices_S16384x5712_S16384x1024_0_768⟩,
     ⟨S16384x512, extractStridedSlice S16384x512 ![0, 0] C slices_S16384x5712_S16384x512_0_0⟩] concatenates_S16384x1024_S16384x512_S16384x1536_d1

/-- Rows turned to one column per token. -/
def turnedRows (u : FVec Ideal S16384x1536 .f32) : FVec Ideal S8x1536x2048 .bf16 :=
  truncf .bf16 (transpose S8x1536x2048 [0, 2, 1] (shapeCast _ u shapeCasts_S16384x1536_S8x2048x1536) transposes_S8x2048x1536_S8x1536x2048_0_2_1) bitsLt_bf16_f32

/-- The reference's index queries and queries, one column per token. -/
def refQ (C : FVec Ideal S16384x5712 .f32) : FVec Ideal S8x1536x2048 .bf16 := turnedRows (queryRows C)

/-- The first result read at one element is a laid out column. -/
theorem refPa_at (C : FVec Ideal S16384x5712 .f32) (h : Fin 1024 → EReal) (w : Fin 1024 → Fin 5712 → EReal) (r : Fin 16384)
    (hC : ∀ q, C (ix2 r q) = ∑ k, h k * w k q) (j : Fin 3584) : refPa C (ix2 r j) = proj h w ⟨j, by omega⟩ := by
  refine Eq.trans ?_ (rowA_proj (fun q => C (ix2 r q)) h w hC j)
  pointwise [refPa, rowA]

/-- The second result read at one element is a laid out column. -/
theorem refPb_at (C : FVec Ideal S16384x5712 .f32) (h : Fin 1024 → EReal) (w : Fin 1024 → Fin 5712 → EReal) (r : Fin 16384)
    (hC : ∀ q, C (ix2 r q) = ∑ k, h k * w k q) (j : Fin 2176) : refPb C (ix2 r j) = proj h w ⟨3584 + j, by omega⟩ := by
  refine Eq.trans ?_ (rowB_proj (fun q => C (ix2 r q)) h w hC j)
  pointwise [refPb, rowB]

/-- The keys read at one element. -/
theorem refK_at (C : FVec Ideal S16384x5712 .f32) (b : Fin 8) (j : Fin 128) (s : Fin 2048) :
    refK C (ix3 b j s) = C (ix2 ⟨b * 2048 + s, by omega⟩ ⟨512 + j, by omega⟩) := by
  pointwise [refK]

/-- The values read at one element. -/
theorem refV_at (C : FVec Ideal S16384x5712 .f32) (b : Fin 8) (j : Fin 128) (s : Fin 2048) :
    refV C (ix3 b j s) = C (ix2 ⟨b * 2048 + s, by omega⟩ ⟨640 + j, by omega⟩) := by
  pointwise [refV]

/-- Turned rows read at one element. -/
theorem turnedRows_at (u : FVec Ideal S16384x1536 .f32) (b : Fin 8) (j : Fin 1536) (s : Fin 2048) :
    turnedRows u (ix3 b j s) = u (ix2 ⟨b * 2048 + s, by omega⟩ j) := by
  pointwise [turnedRows]

/-- The first 1024 are columns 768 to 1791, the index queries'. -/
theorem queryRows_index (C : FVec Ideal S16384x5712 .f32) (r : Fin 16384) (j : Fin 1536) (i : Fin 5712) (hj : (j : ℕ) < 1024) (hi : (i : ℕ) = 768 + j) :
    queryRows C (ix2 r j) = C (ix2 r i) := by
  pointwise [queryRows]
  rw [dif_pos (show _ by omega)]
  exact congrArg (fun i => C (ix2 r i)) (Fin.ext hi.symm)

/-- The last 512 are the first 512 columns, the queries'. -/
theorem queryRows_query (C : FVec Ideal S16384x5712 .f32) (r : Fin 16384) (j : Fin 1536) (i : Fin 5712) (hj : 1024 ≤ (j : ℕ)) (hi : (i : ℕ) = j - 1024) :
    queryRows C (ix2 r j) = C (ix2 r i) := by
  pointwise [queryRows]
  rw [dif_neg (show ¬ _ by omega)]
  exact congrArg (fun i => C (ix2 r i)) (Fin.ext hi.symm)

end Reference

end Cert.Prompt2
-- ==== Proof.Eye.lean ====
/- The 256 by 256 identity the prompt's projection is given. -/
module

public import proofs.«01_k».proof.PromptIdeal
public import Idealize.ShloMosaic.Lib.Pipeline.ValueKit

@[expose] public section

set_option maxRecDepth 16384

noncomputable section

open Idealize.ShloMosaic Idealize.ShloMosaic.TcCoe Idealize.SL.Sem

namespace Cert.Prompt2

open Cert.PromptIdeal

/-- A digit's choice among 128 words. -/
def pick (a : ℕ → BitVec 16) (x : ℕ) : BitVec 16 := match x with
  | 0 => a 0 | 1 => a 1 | 2 => a 2 | 3 => a 3 | 4 => a 4 | 5 => a 5 | 6 => a 6 | 7 => a 7
  | 8 => a 8 | 9 => a 9 | 10 => a 10 | 11 => a 11 | 12 => a 12 | 13 => a 13 | 14 => a 14 | 15 => a 15
  | 16 => a 16 | 17 => a 17 | 18 => a 18 | 19 => a 19 | 20 => a 20 | 21 => a 21 | 22 => a 22 | 23 => a 23
  | 24 => a 24 | 25 => a 25 | 26 => a 26 | 27 => a 27 | 28 => a 28 | 29 => a 29 | 30 => a 30 | 31 => a 31
  | 32 => a 32 | 33 => a 33 | 34 => a 34 | 35 => a 35 | 36 => a 36 | 37 => a 37 | 38 => a 38 | 39 => a 39
  | 40 => a 40 | 41 => a 41 | 42 => a 42 | 43 => a 43 | 44 => a 44 | 45 => a 45 | 46 => a 46 | 47 => a 47
  | 48 => a 48 | 49 => a 49 | 50 => a 50 | 51 => a 51 | 52 => a 52 | 53 => a 53 | 54 => a 54 | 55 => a 55
  | 56 => a 56 | 57 => a 57 | 58 => a 58 | 59 => a 59 | 60 => a 60 | 61 => a 61 | 62 => a 62 | 63 => a 63
  | 64 => a 64 | 65 => a 65 | 66 => a 66 | 67 => a 67 | 68 => a 68 | 69 => a 69 | 70 => a 70 | 71 => a 71
  | 72 => a 72 | 73 => a 73 | 74 => a 74 | 75 => a 75 | 76 => a 76 | 77 => a 77 | 78 => a 78 | 79 => a 79
  | 80 => a 80 | 81 => a 81 | 82 => a 82 | 83 => a 83 | 84 => a 84 | 85 => a 85 | 86 => a 86 | 87 => a 87
  | 88 => a 88 | 89 => a 89 | 90 => a 90 | 91 => a 91 | 92 => a 92 | 93 => a 93 | 94 => a 94 | 95 => a 95
  | 96 => a 96 | 97 => a 97 | 98 => a 98 | 99 => a 99 | 100 => a 100 | 101 => a 101 | 102 => a 102 | 103 => a 103
  | 104 => a 104 | 105 => a 105 | 106 => a 106 | 107 => a 107 | 108 => a 108 | 109 => a 109 | 110 => a 110 | 111 => a 111
  | 112 => a 112 | 113 => a 113 | 114 => a 114 | 115 => a 115 | 116 => a 116 | 117 => a 117 | 118 => a 118 | 119 => a 119
  | 120 => a 120 | 121 => a 121 | 122 => a 122 | 123 => a 123 | 124 => a 124 | 125 => a 125 | 126 => a 126 | 127 => a 127
  | _ => 0#16

/-- Choosing digit `x` gives word `x`. -/
theorem pick_eq (a : ℕ → BitVec 16) (x : ℕ) (h : x < 128) : pick a x = a x := by
  interval_cases x <;> rfl

/-- Word `x` of the 128 words from entry `128 * n` on: bf16 one if that entry lies on the diagonal, zero if not. -/
def word (n x : ℕ) : BitVec 16 := if n / 2 = n % 2 * 128 + x then 0x3F80#16 else 0#16

set_option maxHeartbeats 1000000 in
/-- Quarter 0 of the literal is the two digits' choice among these words. -/
theorem quarter0 (i : ℕ) : lit0t1_0 i = pick (fun n => pick (word n) (i % 128)) (i / 128 % 128) := rfl
set_option maxHeartbeats 1000000 in
/-- Quarter 1 of the literal is the two digits' choice among these words. -/
theorem quarter1 (i : ℕ) : lit0t1_1 i = pick (fun n => pick (word (128 + n)) (i % 128)) (i / 128 % 128) := rfl
set_option maxHeartbeats 1000000 in
/-- Quarter 2 of the literal is the two digits' choice among these words. -/
theorem quarter2 (i : ℕ) : lit0t1_2 i = pick (fun n => pick (word (256 + n)) (i % 128)) (i / 128 % 128) := rfl
set_option maxHeartbeats 1000000 in
/-- Quarter 3 of the literal is the two digits' choice among these words. -/
theorem quarter3 (i : ℕ) : lit0t1_3 i = pick (fun n => pick (word (384 + n)) (i % 128)) (i / 128 % 128) := rfl

/-- The literal's words: bf16 one on the diagonal, zero off it. -/
theorem lit_at (a b : Fin 256) : lit0t (256 * a + b) = if a = b then 0x3F80#16 else 0#16 := by
  have ha := a.isLt
  have hb := b.isLt
  have key : lit0t (256 * a + b) = word ((256 * a + b) / 128) ((256 * a + b) % 128) := by
    obtain h | h | h | h : (256 * (a : ℕ) + b) / 16384 = 0 ∨ (256 * (a : ℕ) + b) / 16384 = 1 ∨ (256 * (a : ℕ) + b) / 16384 = 2 ∨ (256 * (a : ℕ) + b) / 16384 = 3 := by
      omega
    all_goals
      unfold lit0t
      rw [h]
      simp only [quarter0, quarter1, quarter2, quarter3]
      rw [pick_eq _ _ (by omega), pick_eq _ _ (by omega)]
      congr 1
      omega
  rw [key]
  unfold word
  refine if_congr ?_ rfl rfl
  rw [Fin.ext_iff]
  omega

/-- The literal as an array. -/
def eye : FVec Ideal S256x256 .bf16 := fun i => FloatOps.ofBits .bf16 (lit0 (S256x256.rowMajor i))

/-- The literal is the identity matrix. -/
theorem eye_at (a b : Fin 256) : eye (ix2 a b) = if a = b then 1 else 0 := by
  have e : ((S256x256.rowMajor (ix2 a b)) : ℕ) = 256 * a + b := by
    rw [Shape.rowMajor_val_two]
    simp only [ix2]
    show (a : ℕ) * 256 + b = _
    omega
  have e' : S256x256.rowMajor (ix2 a b) = ⟨256 * a + b, e ▸ (S256x256.rowMajor (ix2 a b)).isLt⟩ := Fin.ext e
  show Ideal.ofBits .bf16 (lit0 (S256x256.rowMajor (ix2 a b))) = _
  rw [e']
  show Ideal.ofBits .bf16 (lit0t (256 * a + b)) = _
  rw [lit_at]
  split_ifs
  · exact Ideal.ofBits_one_bf16
  · simp

end Cert.Prompt2
-- ==== Proof.PromptValue.lean ====
/- The five result arrays of the prompt's combined projection, as the kernel leaves them after its 32 grid points, are the reference's. -/
module

public import proofs.«01_k».proof.Proof.PromptRows
public import proofs.«01_k».proof.Proof.Eye
public import proofs.«01_k».proof.Proof.Gen.PromptIdeal.Value
public import proofs.«01_k».proof.Proof.Gen.PromptReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Rows
open scoped BigOperators

namespace Cert.Prompt2

open Cert.PromptIdeal Cert.PromptIdeal.Gen

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val / 4, 0, t.val % 4] ∧ win0_7.index t = ![t.val / 4, 0, t.val % 4]
    ∧ win0_8.index t = ![t.val / 4, 0, t.val % 4] :=
  (by decide +kernel : ∀ t : Fin grid0.N, _)

/-- The block of rows at point `t`. -/
theorem rows_at (c : Dev nD) (t : Fin cfg0.N) (r : Fin 512) (k : Fin 1024) (R : Fin 16384) (hR : (R : ℕ) = 512 * t.val + r) :
    (show FVec Ideal S512x1024 .f32 from iblk m c 0 t) (ix2 r k) = m ((c : Thread nD τ).loc main_arg0) (ix3 ⟨R / 2048, by omega⟩ ⟨R % 2048, by omega⟩ k) := by
  blk_point [iblk, V, idx t]

/-- The norm's weights. -/
theorem norm_at (c : Dev nD) (t : Fin cfg0.N) (k : Fin 1024) :
    (show FVec Ideal S1x1024 .f32 from iblk m c 1 t) (ix2 0 k) = m ((c : Thread nD τ).loc main_arg1) (ix2 0 k) := by
  blk_point [iblk, V, idx t]

/-- The weight's buffer holds the laid out weight, one row per column. -/
theorem weight_eq (c : Dev nD) (t : Fin cfg0.N) : iblk m c 2 t = laid (m ((c : Thread nD τ).loc main_arg2)) := by
  blk_ext! [iblk, idx t]

/-- The identity's buffer. -/
theorem eye_eq (c : Dev nD) (t : Fin cfg0.N) : iblk m c 3 t = eye := by
  blk_ext! [iblk, idx t]

/-- The chunks stored into the first result's block, last first, from the block of rows, the norm's weights and the laid out weight. -/
def storedA (x : Vec Ideal S512x1024 .f32) (n : Vec Ideal S1x1024 .f32) (w : Vec Ideal S5760x1024 .bf16) : List (View.Piece (Elt Ideal) S512x3584 .bf16) :=
  [⟨Rect.unit ![0, 3072] ![512, 512] inb_S512x3584_S512x512_0_3072, k0_pay11 (F := Ideal) (k0_pay4 x n) (View.ld w (Rect.unit ![3072, 0] ![512, 1024] inb_S5760x1024_S512x1024_3072_0))⟩,
   ⟨Rect.unit ![0, 2560] ![512, 512] inb_S512x3584_S512x512_0_2560, k0_pay10 (F := Ideal) (k0_pay4 x n) (View.ld w (Rect.unit ![2560, 0] ![512, 1024] inb_S5760x1024_S512x1024_2560_0))⟩,
   ⟨Rect.unit ![0, 2048] ![512, 512] inb_S512x3584_S512x512_0_2048, k0_pay9 (F := Ideal) (k0_pay4 x n) (View.ld w (Rect.unit ![2048, 0] ![512, 1024] inb_S5760x1024_S512x1024_2048_0))⟩,
   ⟨Rect.unit ![0, 1536] ![512, 512] inb_S512x3584_S512x512_0_1536, k0_pay8 (F := Ideal) (k0_pay4 x n) (View.ld w (Rect.unit ![1536, 0] ![512, 1024] inb_S5760x1024_S512x1024_1536_0))⟩,
   ⟨Rect.unit ![0, 1024] ![512, 512] inb_S512x3584_S512x512_0_1024, k0_pay7 (F := Ideal) x n (View.ld w (Rect.unit ![1024, 0] ![512, 1024] inb_S5760x1024_S512x1024_1024_0))⟩,
   ⟨Rect.unit ![0, 512] ![512, 512] inb_S512x3584_S512x512_0_512, k0_pay6 (F := Ideal) x n (View.ld w (Rect.unit ![512, 0] ![512, 1024] inb_S5760x1024_S512x1024_512_0))⟩,
   ⟨Rect.unit ![0, 0] ![512, 512] inb_S512x3584_S512x512_0_0, k0_pay5 (F := Ideal) x n (View.ld w (Rect.unit ![0, 0] ![512, 1024] inb_S5760x1024_S512x1024_0_0))⟩]

/-- The chunks stored into the second result's block, last first. -/
def storedB (x : Vec Ideal S512x1024 .f32) (n : Vec Ideal S1x1024 .f32) (w : Vec Ideal S5760x1024 .bf16) : List (View.Piece (Elt Ideal) S512x2176 .f32) :=
  [⟨Rect.unit ![0, 2048] ![512, 128] inb_S512x2176_S512x128_0_2048, k0_pay16 (F := Ideal) (k0_pay4 x n) (View.ld w (Rect.unit ![5632, 0] ![128, 1024] inb_S5760x1024_S128x1024_5632_0))⟩,
   ⟨Rect.unit ![0, 1536] ![512, 512] inb_S512x2176_S512x512_0_1536, k0_pay15 (F := Ideal) (k0_pay4 x n) (View.ld w (Rect.unit ![5120, 0] ![512, 1024] inb_S5760x1024_S512x1024_5120_0))⟩,
   ⟨Rect.unit ![0, 1024] ![512, 512] inb_S512x2176_S512x512_0_1024, k0_pay14 (F := Ideal) (k0_pay4 x n) (View.ld w (Rect.unit ![4608, 0] ![512, 1024] inb_S5760x1024_S512x1024_4608_0))⟩,
   ⟨Rect.unit ![0, 512] ![512, 512] inb_S512x2176_S512x512_0_512, k0_pay13 (F := Ideal) (k0_pay4 x n) (View.ld w (Rect.unit ![4096, 0] ![512, 1024] inb_S5760x1024_S512x1024_4096_0))⟩,
   ⟨Rect.unit ![0, 0] ![512, 512] inb_S512x2176_S512x512_0_0, k0_pay12 (F := Ideal) (k0_pay4 x n) (View.ld w (Rect.unit ![3584, 0] ![512, 1024] inb_S5760x1024_S512x1024_3584_0))⟩]

/-- The chunks of the first result, read at row `s` and column `q`: laid out column `q`. -/
theorem storedA_at (x : Vec Ideal S512x1024 .f32) (n : Vec Ideal S1x1024 .f32) (w : Vec Ideal S5760x1024 .bf16) (s : Fin 512) (q : Fin 3584) :
    View.canon (storedA x n w) (ix2 s q) = ∑ k : Fin 1024, k0_pay4 (F := Ideal) x n (ix2 s k) * w (ix2 ⟨q, by omega⟩ k) := by
  unfold storedA
  generalize e : (ix2 s q : S512x3584.Idx) = y
  canon_tiles x h
  all_goals
    obtain ⟨a, b, rfl⟩ : ∃ a b : Fin 512, x = (ix2 a b : S512x512.Idx) := ⟨x 0, x 1, eq_ix2 (show S512x512.Idx from x)⟩
    subst e
    change (s : ℕ) = (a : ℕ) at h0
    refine (chunk_a _ _ a b).trans (Finset.sum_congr rfl fun k _ => Ideal.mul_congr (congrArg _ (by rw [Fin.ext h0])) ?_)
    first
      | change (q : ℕ) = _ + (b : ℕ) at h1
      | change (q : ℕ) = (b : ℕ) at h1
    pointwise
    blk_ext

/-- The chunks of the second result, read at row `s` and column `q`: laid out column `3584 + q`. -/
theorem storedB_at (x : Vec Ideal S512x1024 .f32) (n : Vec Ideal S1x1024 .f32) (w : Vec Ideal S5760x1024 .bf16) (s : Fin 512) (q : Fin 2176) :
    View.canon (storedB x n w) (ix2 s q) = ∑ k : Fin 1024, k0_pay4 (F := Ideal) x n (ix2 s k) * w (ix2 ⟨3584 + q, by omega⟩ k) := by
  generalize e : (ix2 s q : S512x2176.Idx) = y
  have cov := View.cover_of_tiledBy (storedB x n w) ![512, 128] (by sl_kernel_rfl) y
  unfold storedB at cov ⊢
  canon_tiles x h using cov
  · obtain ⟨a, b, rfl⟩ : ∃ (a : Fin 512) (b : Fin 128), x = (ix2 a b : S512x128.Idx) := ⟨x 0, x 1, eq_ix2 (show S512x128.Idx from x)⟩
    subst e
    change (s : ℕ) = (a : ℕ) at h0
    change (q : ℕ) = _ + (b : ℕ) at h1
    refine (chunk_last _ _ a b).trans (Finset.sum_congr rfl fun k _ => Ideal.mul_congr (congrArg _ (by rw [Fin.ext h0])) ?_)
    pointwise
    blk_ext
  all_goals
    obtain ⟨a, b, rfl⟩ : ∃ a b : Fin 512, x = (ix2 a b : S512x512.Idx) := ⟨x 0, x 1, eq_ix2 (show S512x512.Idx from x)⟩
    subst e
    change (s : ℕ) = (a : ℕ) at h0
    refine (chunk_b _ _ a b).trans (Finset.sum_congr rfl fun k _ => Ideal.mul_congr (congrArg _ (by rw [Fin.ext h0])) ?_)
    first
      | change (q : ℕ) = _ + (b : ℕ) at h1
      | change (q : ℕ) = (b : ℕ) at h1
    pointwise
    blk_ext

/-- A row of the block at point `t` times a laid out column, over the three arguments. -/
theorem projected (c : Dev nD) (t : Fin cfg0.N) (s : Fin 512) (q : Fin 5760) (R : Fin 16384) (hR : (R : ℕ) = 512 * t.val + s) :
    (∑ k : Fin 1024, k0_pay4 (F := Ideal) (show FVec Ideal S512x1024 .f32 from iblk m c 0 t) (show FVec Ideal S1x1024 .f32 from iblk m c 1 t) (ix2 s k)
        * (show FVec Ideal S5760x1024 .bf16 from iblk m c 2 t) (ix2 q k))
      = proj (rms (fun k => m ((c : Thread nD τ).loc main_arg0) (ix3 ⟨R / 2048, by omega⟩ ⟨R % 2048, by omega⟩ k)) (fun k => m ((c : Thread nD τ).loc main_arg1) (ix2 0 k)))
          (fun k q => m ((c : Thread nD τ).loc main_arg2) (ix3 0 k q)) q := by
  unfold proj
  refine Finset.sum_congr rfl fun k _ => Ideal.mul_congr ?_ ?_
  · refine (normed_at _ _ s k).trans ?_
    rw [funext fun k => rows_at m c t s k R hR, funext fun k => norm_at m c t k]
  · exact (congrFun (weight_eq m c t) _).trans (laid_at _ q k)

/-- The index a load of columns from `off` on reads. -/
theorem loaded_at {n wd : ℕ} (off : ℕ) (inb : ∀ a, (![0, off] : Fin 2 → ℕ) a + (![512, wd] : Fin 2 → ℕ) a ≤ (⟨2, ![512, n]⟩ : Shape).size a) (s : Fin 512) (a : Fin wd)
    (q : Fin n) (hq : off + a = (q : ℕ)) :
    (Rect.unit (s := ⟨2, ![512, n]⟩) ![0, off] ![512, wd] inb).toLoadRect.idx (ix2 s a) = ix2 s q := by
  funext i
  refine Fin.ext ?_
  fin_cases i
  · show 0 + 1 * (s : ℕ) = s
    omega
  · show off + 1 * (a : ℕ) = q
    omega

/-- The reference's columns over the three arguments. -/
abbrev cols (c : Dev nD) : FVec Ideal Cert.PromptReferenceIdeal.S16384x5712 .f32 :=
  refCols (m ((c : Thread nD τ).loc main_arg0)) (m ((c : Thread nD τ).loc main_arg1)) (m ((c : Thread nD τ).loc main_arg2))

/-- A laid out column that is column `i` of the weight gives the reference's column `i`. -/
theorem proj_cols (c : Dev nD) (R : Fin 16384) (q : Fin 5760) (i : Fin 5712) (hq : ∀ (w : Fin 1024 → Fin 5712 → EReal) k, laidOut w q k = w k i) :
    proj (rms (fun k => m ((c : Thread nD τ).loc main_arg0) (ix3 ⟨R / 2048, by omega⟩ ⟨R % 2048, by omega⟩ k)) (fun k => m ((c : Thread nD τ).loc main_arg1) (ix2 0 k)))
          (fun k q => m ((c : Thread nD τ).loc main_arg2) (ix3 0 k q)) q = cols m c (ix2 R i) := by
  refine Eq.trans ?_ (refCols_at _ _ _ R i).symm
  exact Finset.sum_congr rfl fun k _ => Ideal.mul_congr rfl (hq _ k)

/-- The first result. -/
theorem final4 (c : Dev nD) : (dats m 0 c).arrAt 4 (cfgs 0).N = refPa (cols m c) := by
  refine (dats m 0 c).arrAt_eq_of_covers 4 _ (by decide +kernel) fun t hf y => ?_
  have ht : t.val < 32 := lt_of_lt_of_eq t.isLt (by decide)
  obtain ⟨s, q, rfl⟩ : ∃ (s : Fin 512) (q : Fin 3584), y = (ix2 s q : S512x3584.Idx) := ⟨y 0, y 1, eq_ix2 (show S512x3584.Idx from y)⟩
  blk_simp
  rw [after0_4]
  unfold outsAt0
  frame_out
  have hemb : ((View.whole main_v17_0).slice (win0_4.rect t)).emb (ix2 s q) = (ix2 ⟨512 * t.val + s, by omega⟩ q : S16384x3584.Idx) := by
    blk_ext [idx t]
  rw [hemb]
  exact (storedA_at _ _ _ s q).trans ((projected m c t s _ ⟨512 * t.val + s, by omega⟩ rfl).trans (refPa_at _ _ _ _ (fun q => refCols_at _ _ _ _ q) q).symm)

/-- The second result. -/
theorem final5 (c : Dev nD) : (dats m 0 c).arrAt 5 (cfgs 0).N = refPb (cols m c) := by
  refine (dats m 0 c).arrAt_eq_of_covers 5 _ (by decide +kernel) fun t hf y => ?_
  have ht : t.val < 32 := lt_of_lt_of_eq t.isLt (by decide)
  obtain ⟨s, q, rfl⟩ : ∃ (s : Fin 512) (q : Fin 2176), y = (ix2 s q : S512x2176.Idx) := ⟨y 0, y 1, eq_ix2 (show S512x2176.Idx from y)⟩
  blk_simp
  rw [after0_5]
  unfold outsAt0
  frame_out
  have hemb : ((View.whole main_v17_1).slice (win0_5.rect t)).emb (ix2 s q) = (ix2 ⟨512 * t.val + s, by omega⟩ q : S16384x2176.Idx) := by
    blk_ext [idx t]
  rw [hemb]
  exact (storedB_at _ _ _ s q).trans ((projected m c t s _ ⟨512 * t.val + s, by omega⟩ rfl).trans (refPb_at _ _ _ _ (fun q => refCols_at _ _ _ _ q) q).symm)

/-- The keys. -/
theorem final6 (c : Dev nD) : (dats m 0 c).arrAt 6 (cfgs 0).N = refK (cols m c) := by
  refine (dats m 0 c).arrAt_eq_of_covers 6 _ (by decide +kernel) fun t hf y => ?_
  have ht : t.val < 32 := lt_of_lt_of_eq t.isLt (by decide)
  obtain ⟨z, j, s, rfl⟩ : ∃ (z : Fin 1) (j : Fin 128) (s : Fin 512), y = (ix3 z j s : S1x128x512.Idx) := ⟨y 0, y 1, y 2, eq_ix3 (show S1x128x512.Idx from y)⟩
  obtain rfl : z = 0 := Subsingleton.elim _ _
  blk_simp
  rw [after0_6]
  unfold outsAt0
  frame_out
  have hemb : ((View.whole main_v17_2).slice (win0_6.rect t)).emb (ix3 0 j s) = (ix3 ⟨t.val / 4, by omega⟩ j ⟨512 * (t.val % 4) + s, by omega⟩ : S8x128x2048.Idx) := by
    blk_ext [idx t]
  rw [hemb]
  refine (turned _ j s).trans ?_
  rw [View.readCov_eq_canon']
  refine (congrArg (View.canon (storedB (iblk m c 0 t) (iblk m c 1 t) (iblk m c 2 t))) (?_ : _ = (ix2 s ⟨1792 + j, by omega⟩ : S512x2176.Idx))).trans ?_
  · exact loaded_at _ _ s j _ rfl
  refine (storedB_at _ _ _ s _).trans ((projected m c t s _ ⟨512 * t.val + s, by omega⟩ rfl).trans ?_)
  refine (proj_cols m c _ _ ⟨512 + j, by omega⟩ fun w k => laidOut_key w _ k _ (by dsimp only; omega) (by dsimp only; omega) (by dsimp only; omega)).trans ?_
  refine Eq.trans ?_ (refK_at _ _ _ _).symm
  exact congrArg (fun R => cols m c (ix2 R _)) (Fin.ext (by dsimp only; omega))

/-- The values. -/
theorem final7 (c : Dev nD) : (dats m 0 c).arrAt 7 (cfgs 0).N = refV (cols m c) := by
  refine (dats m 0 c).arrAt_eq_of_covers 7 _ (by decide +kernel) fun t hf y => ?_
  have ht : t.val < 32 := lt_of_lt_of_eq t.isLt (by decide)
  obtain ⟨z, j, s, rfl⟩ : ∃ (z : Fin 1) (j : Fin 128) (s : Fin 512), y = (ix3 z j s : S1x128x512.Idx) := ⟨y 0, y 1, y 2, eq_ix3 (show S1x128x512.Idx from y)⟩
  obtain rfl : z = 0 := Subsingleton.elim _ _
  blk_simp
  rw [after0_7]
  unfold outsAt0
  frame_out
  have hemb : ((View.whole main_v17_3).slice (win0_7.rect t)).emb (ix3 0 j s) = (ix3 ⟨t.val / 4, by omega⟩ j ⟨512 * (t.val % 4) + s, by omega⟩ : S8x128x2048.Idx) := by
    blk_ext [idx t]
  rw [hemb]
  refine (turned _ j s).trans ?_
  rw [View.readCov_eq_canon']
  refine (congrArg (View.canon (storedB (iblk m c 0 t) (iblk m c 1 t) (iblk m c 2 t))) (?_ : _ = (ix2 s ⟨1920 + j, by omega⟩ : S512x2176.Idx))).trans ?_
  · exact loaded_at _ _ s j _ rfl
  refine (storedB_at _ _ _ s _).trans ((projected m c t s _ ⟨512 * t.val + s, by omega⟩ rfl).trans ?_)
  refine (proj_cols m c _ _ ⟨640 + j, by omega⟩ fun w k => laidOut_value w _ k _ (by dsimp only; omega) (by dsimp only; omega) (by dsimp only; omega)).trans ?_
  refine Eq.trans ?_ (refV_at _ _ _ _).symm
  exact congrArg (fun R => cols m c (ix2 R _)) (Fin.ext (by dsimp only; omega))

/-- A column of the first result's block among the index queries is what the reference turns. -/
theorem turned_index (c : Dev nD) (t : Fin cfg0.N) (lt : t.val < 32) (s : Fin 512) (j : Fin 1536) (hj : (j : ℕ) < 1024) :
    View.canon (storedA (iblk m c 0 t) (iblk m c 1 t) (iblk m c 2 t)) (ix2 s ⟨j, by omega⟩)
      = refQ (cols m c) (ix3 ⟨t.val / 4, by omega⟩ j ⟨512 * (t.val % 4) + s, by omega⟩) := by
  refine (storedA_at _ _ _ s _).trans ((projected m c t s _ ⟨512 * t.val + s, by omega⟩ rfl).trans ?_)
  refine (proj_cols m c _ _ ⟨768 + j, by omega⟩ fun w k => laidOut_indexQuery w _ k _ (by dsimp only; omega) (by dsimp only; omega) (by dsimp only; omega)).trans ?_
  refine Eq.trans ?_ ((turnedRows_at _ _ _ _).trans (queryRows_index _ _ j ⟨768 + j, by omega⟩ hj rfl)).symm
  exact congrArg (fun R => cols m c (ix2 R _)) (Fin.ext (by dsimp only; omega))

/-- A column of the first result's block among the queries is what the reference turns. -/
theorem turned_query (c : Dev nD) (t : Fin cfg0.N) (lt : t.val < 32) (s : Fin 512) (j : Fin 1536) (hj : 1024 ≤ (j : ℕ)) :
    View.canon (storedA (iblk m c 0 t) (iblk m c 1 t) (iblk m c 2 t)) (ix2 s ⟨j + 2048, by omega⟩)
      = refQ (cols m c) (ix3 ⟨t.val / 4, by omega⟩ j ⟨512 * (t.val % 4) + s, by omega⟩) := by
  refine (storedA_at _ _ _ s _).trans ((projected m c t s _ ⟨512 * t.val + s, by omega⟩ rfl).trans ?_)
  refine (proj_cols m c _ _ ⟨j - 1024, by omega⟩ fun w k => laidOut_query w _ k _ (by dsimp only; omega) (by dsimp only; omega) (by dsimp only; omega)).trans ?_
  refine Eq.trans ?_ ((turnedRows_at _ _ _ _).trans (queryRows_query _ _ j ⟨j - 1024, by omega⟩ hj rfl)).symm
  exact congrArg (fun R => cols m c (ix2 R _)) (Fin.ext (by dsimp only; omega))

/-- The index queries and queries. -/
theorem final8 (c : Dev nD) : (dats m 0 c).arrAt 8 (cfgs 0).N = refQ (cols m c) := by
  refine (dats m 0 c).arrAt_eq_of_covers 8 _ (by decide +kernel) fun t _ y => ?_
  have lt : t.val < 32 := lt_of_lt_of_eq t.isLt (by decide)
  obtain ⟨z, j, s, rfl⟩ : ∃ (z : Fin 1) (j : Fin 1536) (s : Fin 512), y = (ix3 z j s : S1x1536x512.Idx) := ⟨y 0, y 1, y 2, eq_ix3 (show S1x1536x512.Idx from y)⟩
  obtain rfl : z = 0 := Subsingleton.elim _ _
  blk_simp
  rw [after0_8]
  unfold outsAt0
  frame_out
  have emb : ((View.whole main_v17_4).slice (win0_8.rect t)).emb (ix3 0 j s) = (ix3 ⟨t.val / 4, by omega⟩ j ⟨512 * (t.val % 4) + s, by omega⟩ : S8x1536x2048.Idx) := by
    blk_ext [idx t]
  rw [emb]
  clear emb
  generalize e : (ix3 0 j s : S1x1536x512.Idx) = y
  canon_tiles x h
  all_goals
    obtain ⟨z, a, b, rfl⟩ : ∃ (z : Fin 1) (a : Fin 256) (b : Fin 512), x = (ix3 z a b : S1x256x512.Idx) := ⟨x 0, x 1, x 2, eq_ix3 (show S1x256x512.Idx from x)⟩
    obtain rfl : z = 0 := Subsingleton.elim _ _
    subst e
    change (s : ℕ) = (b : ℕ) at h2
    obtain rfl : s = b := Fin.ext h2
    refine (turned_eye _ _ (fun p q => (congrFun (eye_eq m c t) _).trans (eye_at p q)) a s).trans ?_
    rw [View.readCov_eq_canon']
    first
      | change (j : ℕ) = _ + (a : ℕ) at h1
      | change (j : ℕ) = (a : ℕ) at h1
    have a_lt := a.isLt
    first
      | (have side : 1024 ≤ (j : ℕ) := by omega
         refine Eq.trans (congrArg (View.canon (storedA (iblk m c 0 t) (iblk m c 1 t) (iblk m c 2 t))) ?_) (turned_query m c t lt s j side)
         exact loaded_at _ _ s a _ (by dsimp only; omega))
      | (have side : (j : ℕ) < 1024 := by omega
         refine Eq.trans (congrArg (View.canon (storedA (iblk m c 0 t) (iblk m c 1 t) (iblk m c 2 t))) ?_) (turned_index m c t lt s j side)
         exact loaded_at _ _ s a _ (by dsimp only; omega))

end Cert.Prompt2
-- ==== Proof.SampleRows.lean ====
/- The combined projection of the sample: the plain reference, read at one element. -/
module

public import proofs.«01_k».proof.Proof.Rows
public import proofs.«01_k».proof.Proof.Gen.SampleReferenceIdeal

@[expose] public section

set_option maxRecDepth 16384

noncomputable section

open Idealize.ShloMosaic Idealize.ShloMosaic.TcCoe Idealize.SL.Sem
open Cert.Rows
open scoped BigOperators

namespace Cert.Sample2

section Reference
open Cert.SampleReferenceIdeal Cert.SampleReferenceIdeal.Gen

/-- The reference's combined projection: every row's norm times the whole weight. -/
def refCols (x : FVec Ideal S32x32x1024 .f32) (n1 : FVec Ideal S1x1024 .f32) (w : FVec Ideal S1x1024x5712 .f32) : FVec Ideal S1024x5712 .f32 :=
  Host.dotGeneral dot_S1024x1024_S1024x5712_S1024x5712_1_0_0_1_n_n none
    (mulf (mulf (shapeCast _ x shapeCasts_S32x32x1024_S1024x1024) (broadcastInDim S1024x1024 ![0, 1] bcast_S1024x1_S1024x1024_0_1 (Host.rsqrt
      (addf (Host.divf (broadcastInDim S1024x1 ![0] bcast_S1024_S1024x1_0 (Host.reduceAdd (mulf (shapeCast _ x shapeCasts_S32x32x1024_S1024x1024)
            (shapeCast _ x shapeCasts_S32x32x1024_S1024x1024)) (constant S_ .f32 0x00000000#32) reducesTo_S1024x1024_S1024_d1 h_S_))
          (broadcastInDim S1024x1 ![] bcast_S_S1024x1 (constant S_ .f32 0x44800000#32)))
        (broadcastInDim S1024x1 ![] bcast_S_S1024x1 (constant S_ .f32 0x358637BD#32))))))
      (broadcastInDim S1024x1024 ![0, 1] bcast_S1x1024_S1024x1024_0_1 (broadcastInDim S1x1024 ![1] bcast_S1024_S1x1024_1 (shapeCast _ n1 shapeCasts_S1x1024_S1024))))
    (shapeCast _ w shapeCasts_S1x1024x5712_S1024x5712)

/-- The reference's columns read at one element: a normed row times a column of the weight. -/
theorem refCols_at (x : FVec Ideal S32x32x1024 .f32) (n1 : FVec Ideal S1x1024 .f32) (w : FVec Ideal S1x1024x5712 .f32) (r : Fin 1024) (q : Fin 5712) :
    refCols x n1 w (ix2 r q) = ∑ k : Fin 1024, rms (fun k => x (ix3 ⟨r / 32, by omega⟩ ⟨r % 32, by omega⟩ k)) (fun k => n1 (ix2 0 k)) k * w (ix3 0 k q) := by
  pointwise [refCols, rms]

/-- The reference's first result from its columns: index query, the two gates, the queries. -/
def refPa (C : FVec Ideal S1024x5712 .f32) : FVec Ideal S1024x3584 .bf16 :=
  truncf .bf16 (concatenate S1024x3584 1
    [⟨S1024x1024, extractStridedSlice S1024x1024 ![0, 768] C slices_S1024x5712_S1024x1024_0_768⟩,
     ⟨S1024x1024, extractStridedSlice S1024x1024 ![0, 3664] C slices_S1024x5712_S1024x1024_0_3664⟩,
     ⟨S1024x1024, extractStridedSlice S1024x1024 ![0, 4688] C slices_S1024x5712_S1024x1024_0_4688⟩,
     ⟨S1024x512, extractStridedSlice S1024x512 ![0, 0] C slices_S1024x5712_S1024x512_0_0⟩]
    concatenates_S1024x1024_S1024x1024_S1024x1024_S1024x512_S1024x3584_d1) bitsLt_bf16_f32

/-- The reference's second result from its columns: branch input, keys, values, index key, head weights, zeros. -/
def refPb (C : FVec Ideal S1024x5712 .f32) : FVec Ideal S1024x2176 .f32 :=
  concatenate S1024x2176 1
    [⟨S1024x1792, extractStridedSlice S1024x1792 ![0, 1872] C slices_S1024x5712_S1024x1792_0_1872⟩,
     ⟨S1024x128, extractStridedSlice S1024x128 ![0, 512] C slices_S1024x5712_S1024x128_0_512⟩,
     ⟨S1024x128, extractStridedSlice S1024x128 ![0, 640] C slices_S1024x5712_S1024x128_0_640⟩,
     ⟨S1024x64, extractStridedSlice S1024x64 ![0, 1792] C slices_S1024x5712_S1024x64_0_1792⟩,
     ⟨S1024x16, extractStridedSlice S1024x16 ![0, 1856] C slices_S1024x5712_S1024x16_0_1856⟩,
     ⟨S1024x48, broadcastInDim S1024x48 ![] bcast_S_S1024x48 (constant S_ .f32 0x00000000#32)⟩]
    concatenates_S1024x1792_S1024x128_S1024x128_S1024x64_S1024x16_S1024x48_S1024x2176_d1

/-- The first result read at one element is a laid out column. -/
theorem refPa_at (C : FVec Ideal S1024x5712 .f32) (h : Fin 1024 → EReal) (w : Fin 1024 → Fin 5712 → EReal) (r : Fin 1024)
    (hC : ∀ q, C (ix2 r q) = ∑ k, h k * w k q) (j : Fin 3584) : refPa C (ix2 r j) = proj h w ⟨j, by omega⟩ := by
  refine Eq.trans ?_ (rowA_proj (fun q => C (ix2 r q)) h w hC j)
  pointwise [refPa, rowA]

/-- The second result read at one element is a laid out column. -/
theorem refPb_at (C : FVec Ideal S1024x5712 .f32) (h : Fin 1024 → EReal) (w : Fin 1024 → Fin 5712 → EReal) (r : Fin 1024)
    (hC : ∀ q, C (ix2 r q) = ∑ k, h k * w k q) (j : Fin 2176) : refPb C (ix2 r j) = proj h w ⟨3584 + j, by omega⟩ := by
  refine Eq.trans ?_ (rowB_proj (fun q => C (ix2 r q)) h w hC j)
  pointwise [refPb, rowB]

end Reference

end Cert.Sample2
-- ==== Proof.SampleValue.lean ====
/- The two result arrays of the sample's combined projection, as the kernel leaves them after its 2 grid points, are the reference's. -/
module

public import proofs.«01_k».proof.Proof.SampleRows
public import proofs.«01_k».proof.Proof.PromptValue
public import proofs.«01_k».proof.Proof.Gen.SampleIdeal.Value
public import proofs.«01_k».proof.Proof.Gen.SampleReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Rows
open Cert.Prompt2 (laid laid_at normed_at storedA_at storedB_at)
open scoped BigOperators

namespace Cert.Sample2

open Cert.SampleIdeal Cert.SampleIdeal.Gen

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

/-- The block of rows at point `t`. -/
theorem rows_at (c : Dev nD) (t : Fin cfg0.N) (r : Fin 512) (k : Fin 1024) (R : Fin 1024) (hR : (R : ℕ) = 512 * t.val + r) :
    (show FVec Ideal S512x1024 .f32 from iblk m c 0 t) (ix2 r k) = m ((c : Thread nD τ).loc main_arg0) (ix3 ⟨R / 32, by omega⟩ ⟨R % 32, by omega⟩ k) := by
  blk_point [iblk, V, idx t]

/-- The norm's weights. -/
theorem norm_at (c : Dev nD) (t : Fin cfg0.N) (k : Fin 1024) :
    (show FVec Ideal S1x1024 .f32 from iblk m c 1 t) (ix2 0 k) = m ((c : Thread nD τ).loc main_arg1) (ix2 0 k) := by
  blk_point [iblk, V, idx t]

/-- The weight's buffer holds the laid out weight, one row per column. -/
theorem weight_eq (c : Dev nD) (t : Fin cfg0.N) : iblk m c 2 t = laid (m ((c : Thread nD τ).loc main_arg2)) := by
  blk_ext! [iblk, idx t]

/-- A row of the block at point `t` times a laid out column, over the three arguments. -/
theorem projected (c : Dev nD) (t : Fin cfg0.N) (s : Fin 512) (q : Fin 5760) (R : Fin 1024) (hR : (R : ℕ) = 512 * t.val + s) :
    (∑ k : Fin 1024, Cert.PromptIdeal.Gen.k0_pay4 (F := Ideal) (show FVec Ideal S512x1024 .f32 from iblk m c 0 t) (show FVec Ideal S1x1024 .f32 from iblk m c 1 t) (ix2 s k)
        * (show FVec Ideal S5760x1024 .bf16 from iblk m c 2 t) (ix2 q k))
      = proj (rms (fun k => m ((c : Thread nD τ).loc main_arg0) (ix3 ⟨R / 32, by omega⟩ ⟨R % 32, by omega⟩ k)) (fun k => m ((c : Thread nD τ).loc main_arg1) (ix2 0 k)))
          (fun k q => m ((c : Thread nD τ).loc main_arg2) (ix3 0 k q)) q := by
  unfold proj
  refine Finset.sum_congr rfl fun k _ => Ideal.mul_congr ?_ ?_
  · refine (normed_at _ _ s k).trans ?_
    rw [funext fun k => rows_at m c t s k R hR, funext fun k => norm_at m c t k]
  · exact (congrFun (weight_eq m c t) _).trans (laid_at _ q k)

/-- The reference's columns over the three arguments. -/
abbrev cols (c : Dev nD) : FVec Ideal Cert.SampleReferenceIdeal.S1024x5712 .f32 :=
  refCols (m ((c : Thread nD τ).loc main_arg0)) (m ((c : Thread nD τ).loc main_arg1)) (m ((c : Thread nD τ).loc main_arg2))

/-- The first result. -/
theorem final4 (c : Dev nD) : (dats m 0 c).arrAt 4 (cfgs 0).N = refPa (cols m c) := by
  refine (dats m 0 c).arrAt_eq_of_covers 4 _ (by decide +kernel) fun t hf y => ?_
  have ht : t.val < 2 := lt_of_lt_of_eq t.isLt (by decide)
  obtain ⟨s, q, rfl⟩ : ∃ (s : Fin 512) (q : Fin 3584), y = (ix2 s q : S512x3584.Idx) := ⟨y 0, y 1, eq_ix2 (show S512x3584.Idx from y)⟩
  blk_simp
  rw [after0_4]
  unfold outsAt0
  frame_out
  have hemb : ((View.whole main_v17_0).slice (win0_4.rect t)).emb (ix2 s q) = (ix2 ⟨512 * t.val + s, by omega⟩ q : S1024x3584.Idx) := by
    blk_ext [idx t]
  rw [hemb]
  exact (storedA_at _ _ _ s q).trans ((projected m c t s _ ⟨512 * t.val + s, by omega⟩ rfl).trans (refPa_at _ _ _ _ (fun q => refCols_at _ _ _ _ q) q).symm)

/-- The second result. -/
theorem final5 (c : Dev nD) : (dats m 0 c).arrAt 5 (cfgs 0).N = refPb (cols m c) := by
  refine (dats m 0 c).arrAt_eq_of_covers 5 _ (by decide +kernel) fun t hf y => ?_
  have ht : t.val < 2 := lt_of_lt_of_eq t.isLt (by decide)
  obtain ⟨s, q, rfl⟩ : ∃ (s : Fin 512) (q : Fin 2176), y = (ix2 s q : S512x2176.Idx) := ⟨y 0, y 1, eq_ix2 (show S512x2176.Idx from y)⟩
  blk_simp
  rw [after0_5]
  unfold outsAt0
  frame_out
  have hemb : ((View.whole main_v17_1).slice (win0_5.rect t)).emb (ix2 s q) = (ix2 ⟨512 * t.val + s, by omega⟩ q : S1024x2176.Idx) := by
    blk_ext [idx t]
  rw [hemb]
  exact (storedB_at _ _ _ s q).trans ((projected m c t s _ ⟨512 * t.val + s, by omega⟩ rfl).trans (refPb_at _ _ _ _ (fun q => refCols_at _ _ _ _ q) q).symm)

end Cert.Sample2
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptIdeal.Value
public import proofs.«01_k».proof.Proof.Gen.PromptReferenceIdeal
public import proofs.«01_k».proof.Proof.Gen.PromptReferenceIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampleReferenceIdeal
public import proofs.«01_k».proof.Proof.Gen.SampleReferenceIdeal.Run
public import proofs.«01_k».proof.Proof.FfnValue
public import proofs.«01_k».proof.Proof.PromptValue
public import proofs.«01_k».proof.Proof.SampleValue
public import Idealize.ShloMosaic.Adequacy
public import Idealize.ShloMosaic.Init

@[expose] public section

noncomputable section

namespace Cert.Proof

open Idealize.ShloMosaic Idealize.SL.Sem

open Cert.ReferenceIdeal in
/-- What the last call's reference returns, of its twelve arguments. -/
theorem ffn_reference (m : (ℓ : Loc nD τ sig) → Buf (Elt Ideal) ℓ) (c : Dev nD) :
    Value.res_main_v62 m c = Cert.Ffn.ref (m (c.tc.loc main_arg0)) (m (c.tc.loc main_arg1)) (m (c.tc.loc main_arg2))
      (m (c.tc.loc main_arg3)) (m (c.tc.loc main_arg4)) (m (c.tc.loc main_arg5)) (m (c.tc.loc main_arg6))
      (m (c.tc.loc main_arg7)) (m (c.tc.loc main_arg8)) (m (c.tc.loc main_arg9)) (m (c.tc.loc main_arg10))
      (m (c.tc.loc main_arg11)) := rfl

/-- The last call: over the extended reals its result is the reference's. -/
theorem ffn : Cert.algebraic_KernelIdeal_ReferenceIdeal := by
  pair_intro
  · run_from Cert.KernelIdeal.Value.run_blocks m g
  · run_from Cert.ReferenceIdeal.Value.run m' g'
    obtain ⟨h0, h1, h2, h3, h4, h5, h6, h7, h8, h9, h10, h11⟩ := hagree c
    refine Eq.trans ?_ (Cert.Ffn.final m c).symm
    rw [ffn_reference, h0, h1, h2, h3, h4, h5, h6, h7, h8, h9, h10, h11]

/-- The prompt's combined projection: over the extended reals its five results are the reference's. -/
theorem prompt : Cert.algebraic_PromptIdeal_PromptReferenceIdeal := by
  pair_intro
  · run_from Cert.PromptIdeal.Value.run_blocks m g
  · run_from Cert.PromptReferenceIdeal.Value.run m' g'
    · obtain ⟨h0, h1, h2⟩ := hagree c
      refine Eq.trans ?_ (Cert.Prompt2.final4 m c).symm
      rw [Cert.Prompt2.cols, ← h0, ← h1, ← h2]
      rfl
    · obtain ⟨h0, h1, h2⟩ := hagree c
      refine Eq.trans ?_ (Cert.Prompt2.final5 m c).symm
      rw [Cert.Prompt2.cols, ← h0, ← h1, ← h2]
      rfl
    · exact (Cert.Prompt2.final6 m c).symm
    · exact (Cert.Prompt2.final7 m c).symm
    · obtain ⟨-, -, h2⟩ := hagree c
      refine Eq.trans ?_ (Cert.Prompt2.final8 m c).symm
      rw [Cert.Prompt2.cols, ← h2]
      rfl

/-- The sample's combined projection: over the extended reals its two results are the reference's. -/
theorem sample : Cert.algebraic_SampleIdeal_SampleReferenceIdeal := by
  pair_intro
  · run_from Cert.SampleIdeal.Value.run_blocks m g
  · run_from Cert.SampleReferenceIdeal.Value.run m' g'
    · obtain ⟨h0, h1, h2⟩ := hagree c
      refine Eq.trans ?_ (Cert.Sample2.final4 m c).symm
      rw [Cert.Sample2.cols, ← h0, ← h1, ← h2]
      rfl
    · obtain ⟨h0, h1, h2⟩ := hagree c
      refine Eq.trans ?_ (Cert.Sample2.final5 m c).symm
      rw [Cert.Sample2.cols, ← h0, ← h1, ← h2]
      rfl

/-- The last call's reference ends with its arguments unchanged; it declares no semaphore, so every counter is zero. -/
theorem frame_ffn_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

/-- The same of the prompt projection's reference. -/
theorem frame_prompt_reference : Cert.quiescent_PromptReferenceIdeal := fun m g _ =>
  (θ_run Cert.PromptReferenceIdeal.defs _ _).mono
    (fun r h => ⟨fun c => (h c).2.2.2.2.2, sem_eq_zero_of_no_sems (by decide) r.2⟩)
    (Cert.PromptReferenceIdeal.Value.run m g)

/-- The same of the sample projection's reference. -/
theorem frame_sample_reference : Cert.quiescent_SampleReferenceIdeal := fun m g _ =>
  (θ_run Cert.SampleReferenceIdeal.defs _ _).mono
    (fun r h => ⟨fun c => (h c).2.2, sem_eq_zero_of_no_sems (by decide) r.2⟩)
    (Cert.SampleReferenceIdeal.Value.run m g)

/-- All that the certificate claims: the frames, the preservations and the three equations above. -/
theorem claim : Cert.Claim :=
  ⟨Cert.Kernel.Gen.facts, Cert.KernelIdeal.Gen.facts, Cert.ReferenceIdeal.Gen.facts,
    Cert.Prompt.Gen.facts, Cert.PromptIdeal.Gen.facts, Cert.PromptReferenceIdeal.Gen.facts,
    Cert.Sample.Gen.facts, Cert.SampleIdeal.Gen.facts, Cert.SampleReferenceIdeal.Gen.facts,
    fun m g _ => Cert.Kernel.Gen.frame m g, fun m g _ => Cert.KernelIdeal.Gen.frame m g, frame_ffn_reference,
    fun m g _ => Cert.Prompt.Gen.frame m g, fun m g _ => Cert.PromptIdeal.Gen.frame m g, frame_prompt_reference,
    fun m g _ => Cert.Sample.Gen.frame m g, fun m g _ => Cert.SampleIdeal.Gen.frame m g, frame_sample_reference,
    trivial, ffn, trivial, prompt, trivial, sample⟩

end Cert.Proof

end
